-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh [hPre_fresh : Cert.Pre_fresh.Facts] (m : (ℓ : Loc Cert.KernelIdeal.nD Cert.KernelIdeal.τ Cert.KernelIdeal.sig) → Buf (Elt Ideal) ℓ) : Prop :=
  ∀ c : Dev Cert.KernelIdeal.nD,
    (Cert.Pre_fresh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh [hPre_fresh : Cert.Pre_fresh.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_fresh [hKernelIdeal : Cert.KernelIdeal.Facts] [hPre_fresh : Cert.Pre_fresh.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_fresh [hReferenceIdeal : Cert.ReferenceIdeal.Facts] [hPre_fresh : Cert.Pre_fresh.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_fresh [hKernelIdeal : Cert.KernelIdeal.Facts] [hReferenceIdeal : Cert.ReferenceIdeal.Facts] [hPre_fresh : Cert.Pre_fresh.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_fresh : Cert.Pre_fresh.Facts),
    quiescent_Kernel (hKernel := hKernel)
    ∧ quiescent_KernelIdeal (hKernelIdeal := hKernelIdeal)
    ∧ quiescent_KernelIdeal_pre_fresh (hKernelIdeal := hKernelIdeal) (hPre_fresh := hPre_fresh)
    ∧ quiescent_ReferenceIdeal (hReferenceIdeal := hReferenceIdeal)
    ∧ quiescent_ReferenceIdeal_pre_fresh (hReferenceIdeal := hReferenceIdeal) (hPre_fresh := hPre_fresh)
    ∧ preserves_Kernel_KernelIdeal
    ∧ algebraic_KernelIdeal_ReferenceIdeal_pre_fresh (hKernelIdeal := hKernelIdeal) (hReferenceIdeal := hReferenceIdeal) (hPre_fresh := hPre_fresh)
-- ==== Pre_fresh.lean ====
abbrev S64x1024 : Shape := ⟨2, ![64, 1024]⟩
abbrev S512x512 : Shape := ⟨2, ![512, 512]⟩
abbrev S2x64x32768 : Shape := ⟨3, ![2, 64, 32768]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S_ : Shape := ⟨0, ![]⟩

class Facts : Prop where
  bcast_S_S2x64x32768 : S_.BroadcastsInDim S2x64x32768 (![] : Fin 0 → Fin S2x64x32768.rank)
  reducesTo_S2x64x32768_S_d0_1_2 : S2x64x32768.ReducesTo [0, 1, 2] S_
  h_S_ : 0 < S_.numel

variable [Facts]

def fn {F : FTy → Type} [FloatOps F] (main_arg0 : FVec F S64x1024 .f32) (main_arg1 : FVec F S512x512 .f32) (main_arg2 : FVec F S2x64x32768 .f32) (main_arg3 : FVec F S198x128 .f32) (main_arg4 : FVec F S128 .f32) (main_arg5 : FVec F S198x64 .f32) (main_arg6 : FVec F S64 .f32) (main_arg7 : FVec F S384x128 .f32) (main_arg8 : FVec F S128 .f32) (main_arg9 : FVec F S384x64 .f32) (main_arg10 : FVec F S64 .f32) : IVec S_ 1 :=
  let main_cst : FVec F S_ .f32 := constant S_ .f32 0x00000000#32
  let main_v0 : FVec F S2x64x32768 .f32 := broadcastInDim S2x64x32768 ![] bcast_S_S2x64x32768 main_cst
  let main_v1 : IVec S2x64x32768 1 := cmpf .oeq main_arg2 main_v0
  let main_c : IVec S_ 1 := constantI S_ 1 1#1
  let main_v2 : IVec S_ 1 := (fun x v => Host.reduce IntOp.andi x v reducesTo_S2x64x32768_S_d0_1_2 h_S_) main_v1 main_c
  main_v2
-- ==== Kernel.lean ====
abbrev S64x1024 : Shape := ⟨2, ![64, 1024]⟩
abbrev S512x512 : Shape := ⟨2, ![512, 512]⟩
abbrev S2x64x32768 : Shape := ⟨3, ![2, 64, 32768]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S8x6 : Shape := ⟨2, ![8, 6]⟩
abbrev S192x192 : Shape := ⟨2, ![192, 192]⟩
abbrev S4x16x512x2 : Shape := ⟨4, ![4, 16, 512, 2]⟩
abbrev S4x512x16x2 : Shape := ⟨4, ![4, 512, 16, 2]⟩
abbrev S4x512x32 : Shape := ⟨3, ![4, 512, 32]⟩
abbrev S1x128 : Shape := ⟨2, ![1, 128]⟩
abbrev S6x128 : Shape := ⟨2, ![6, 128]⟩
abbrev S6x64 : Shape := ⟨2, ![6, 64]⟩
abbrev S192x128 : Shape := ⟨2, ![192, 128]⟩
abbrev S192x64 : Shape := ⟨2, ![192, 64]⟩
abbrev S2x64x512x64 : Shape := ⟨4, ![2, 64, 512, 64]⟩
abbrev S64x512x64 : Shape := ⟨3, ![64, 512, 64]⟩
abbrev S1x512x32 : Shape := ⟨3, ![1, 512, 32]⟩
abbrev S2x16x512x64 : Shape := ⟨4, ![2, 16, 512, 64]⟩
abbrev S16x512x64 : Shape := ⟨3, ![16, 512, 64]⟩
abbrev S8x128 : Shape := ⟨2, ![8, 128]⟩
abbrev S512x32 : Shape := ⟨2, ![512, 32]⟩
abbrev S512x2 : Shape := ⟨2, ![512, 2]⟩
abbrev S512x8 : Shape := ⟨2, ![512, 8]⟩
abbrev S8192x8 : Shape := ⟨2, ![8192, 8]⟩
abbrev S8192x128 : Shape := ⟨2, ![8192, 128]⟩
abbrev S8192x64 : Shape := ⟨2, ![8192, 64]⟩
abbrev S512x64 : Shape := ⟨2, ![512, 64]⟩
abbrev S512x1024 : Shape := ⟨2, ![512, 1024]⟩
abbrev S512x192 : Shape := ⟨2, ![512, 192]⟩
abbrev S8192x192 : Shape := ⟨2, ![8192, 192]⟩
abbrev S1x16x512x64 : Shape := ⟨4, ![1, 16, 512, 64]⟩
abbrev S64x32768 : Shape := ⟨2, ![64, 32768]⟩

abbrev nBuf : Space → Nat
  | .hbm => 30
  | .vmem => 15
  | .smem => 0
  | _ => 0

abbrev bufTy : (tb : Table) → Fin (tcTables nBuf tb) → BufTy
  | .hbm, ⟨0, _⟩ => ⟨S64x1024, .f32⟩
  | .hbm, ⟨1, _⟩ => ⟨S512x512, .f32⟩
  | .hbm, ⟨2, _⟩ => ⟨S2x64x32768, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S8x6, .f32⟩
  | .hbm, ⟨12, _⟩ => ⟨S192x192, .f32⟩
  | .hbm, ⟨13, _⟩ => ⟨S4x16x512x2, .f32⟩
  | .hbm, ⟨14, _⟩ => ⟨S4x512x16x2, .f32⟩
  | .hbm, ⟨15, _⟩ => ⟨S4x512x32, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S64, .f32⟩
  | .hbm, ⟨20, _⟩ => ⟨S128, .f32⟩
  | .hbm, ⟨21, _⟩ => ⟨S1x128, .f32⟩
  | .hbm, ⟨22, _⟩ => ⟨S6x128, .f32⟩
  | .hbm, ⟨23, _⟩ => ⟨S6x64, .f32⟩
  | .hbm, ⟨24, _⟩ => ⟨S192x128, .f32⟩
  | .hbm, ⟨25, _⟩ => ⟨S192x64, .f32⟩
  | .hbm, ⟨26, _⟩ => ⟨S2x64x512x64, .f32⟩
  | .hbm, ⟨27, _⟩ => ⟨S64x512x64, .f32⟩
  | .hbm, ⟨28, _⟩ => ⟨S64x32768, .f32⟩
  | .hbm, ⟨29, _⟩ => ⟨S2x64x32768, .f32⟩
  | .local _ .vmem, ⟨0, _⟩ => ⟨S1x512x32, .f32⟩
  | .local _ .vmem, ⟨1, _⟩ => ⟨S1x512x32, .f32⟩
  | .local _ .vmem, ⟨2, _⟩ => ⟨S512x512, .f32⟩
  | .local _ .vmem, ⟨3, _⟩ => ⟨S8x6, .f32⟩
  | .local _ .vmem, ⟨4, _⟩ => ⟨S6x128, .f32⟩
  | .local _ .vmem, ⟨5, _⟩ => ⟨S6x64, .f32⟩
  | .local _ .vmem, ⟨6, _⟩ => ⟨S1x128, .f32⟩
  | .local _ .vmem, ⟨7, _⟩ => ⟨S192x192, .f32⟩
  | .local _ .vmem, ⟨8, _⟩ => ⟨S192x128, .f32⟩
  | .local _ .vmem, ⟨9, _⟩ => ⟨S192x64, .f32⟩
  | .local _ .vmem, ⟨10, _⟩ => ⟨S1x128, .f32⟩
  | .local _ .vmem, ⟨11, _⟩ => ⟨S2x16x512x64, .f32⟩
  | .local _ .vmem, ⟨12, _⟩ => ⟨S2x16x512x64, .f32⟩
  | .local _ .vmem, ⟨13, _⟩ => ⟨S16x512x64, .f32⟩
  | .local _ .vmem, ⟨14, _⟩ => ⟨S16x512x64, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x16x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S64x1024 : Shape := ⟨2, ![64, 1024]⟩
abbrev S512x512 : Shape := ⟨2, ![512, 512]⟩
abbrev S2x64x32768 : Shape := ⟨3, ![2, 64, 32768]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S1x64x32768 : Shape := ⟨3, ![1, 64, 32768]⟩
abbrev S64x32768 : Shape := ⟨2, ![64, 32768]⟩
abbrev S64x512x2 : Shape := ⟨3, ![64, 512, 2]⟩
abbrev S64x512x64 : Shape := ⟨3, ![64, 512, 64]⟩
abbrev S64x512x66 : Shape := ⟨3, ![64, 512, 66]⟩
abbrev S512x66x64 : Shape := ⟨3, ![512, 66, 64]⟩
abbrev S512x4224 : Shape := ⟨2, ![512, 4224]⟩
abbrev S_ : Shape := ⟨0, ![]⟩
abbrev S1x512x4224 : Shape := ⟨3, ![1, 512, 4224]⟩
abbrev S3x512x4224 : Shape := ⟨3, ![3, 512, 4224]⟩
abbrev S3x512x66x64 : Shape := ⟨4, ![3, 512, 66, 64]⟩
abbrev S64x512x66x3 : Shape := ⟨4, ![64, 512, 66, 3]⟩
abbrev S32768x198 : Shape := ⟨2, ![32768, 198]⟩
abbrev S32768x128 : Shape := ⟨2, ![32768, 128]⟩
abbrev S1x128 : Shape := ⟨2, ![1, 128]⟩
abbrev S64x65536 : Shape := ⟨2, ![64, 65536]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩

abbrev nBuf : Space → Nat
  | .hbm => 152
  | .vmem => 0
  | .smem => 0
  | _ => 0

abbrev hbmTy0_0 (i : Nat) : BufTy := match i % 128 with
  | 0 => ⟨S64x1024, .f32⟩
  | 1 => ⟨S512x512, .f32⟩
  | 2 => ⟨S2x64x32768, .f32⟩
  | 3 => ⟨S198x128, .f32⟩
  | 4 => ⟨S128, .f32⟩
  | 5 => ⟨S198x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S1x64x32768, .f32⟩
  | 12 => ⟨S64x32768, .f32⟩
  | 13 => ⟨S64x512x2, .f32⟩
  | 14 => ⟨S64x512x64, .f32⟩
  | 15 => ⟨S64x512x66, .f32⟩
  | 16 => ⟨S512x66x64, .f32⟩
  | 17 => ⟨S512x4224, .f32⟩
  | 18 => ⟨S512x4224, .f32⟩
  | 19 => ⟨S512x4224, .f32⟩
  | 20 => ⟨S_, .f32⟩
  | 21 => ⟨S512x4224, .f32⟩
  | 22 => ⟨S512x4224, .f32⟩
  | 23 => ⟨S512x4224, .f32⟩
  | 24 => ⟨S1x512x4224, .f32⟩
  | 25 => ⟨S1x512x4224, .f32⟩
  | 26 => ⟨S1x512x4224, .f32⟩
  | 27 => ⟨S3x512x4224, .f32⟩
  | 28 => ⟨S3x512x66x64, .f32⟩
  | 29 => ⟨S64x512x66x3, .f32⟩
  | 30 => ⟨S32768x198, .f32⟩
  | 31 => ⟨S32768x128, .f32⟩
  | 32 => ⟨S1x128, .f32⟩
  | 33 => ⟨S32768x128, .f32⟩
  | 34 => ⟨S32768x128, .f32⟩
  | 35 => ⟨S64x65536, .f32⟩
  | 36 => ⟨S64x65536, .f32⟩
  | 37 => ⟨S64x65536, .f32⟩
  | 38 => ⟨S_, .f32⟩
  | 39 => ⟨S64x65536, .f32⟩
  | 40 => ⟨S64x65536, .f32⟩
  | 41 => ⟨S_, .f32⟩
  | 42 => ⟨S64x65536, .f32⟩
  | 43 => ⟨S64x65536, .f32⟩
  | 44 => ⟨S64x512x128, .f32⟩
  | 45 => ⟨S64x512x64, .f32⟩
  | 46 => ⟨S64x32768, .f32⟩
  | 47 => ⟨S64x512x64, .f32⟩
  | 48 => ⟨S64x32768, .f32⟩
  | 49 => ⟨S64x32768, .f32⟩
  | 50 => ⟨S64x512x2, .f32⟩
  | 51 => ⟨S64x512x64, .f32⟩
  | 52 => ⟨S64x512x66, .f32⟩
  | 53 => ⟨S512x66x64, .f32⟩
  | 54 => ⟨S512x4224, .f32⟩
  | 55 => ⟨S512x4224, .f32⟩
  | 56 => ⟨S512x4224, .f32⟩
  | 57 => ⟨S_, .f32⟩
  | 58 => ⟨S512x4224, .f32⟩
  | 59 => ⟨S512x4224, .f32⟩
  | 60 => ⟨S512x4224, .f32⟩
  | 61 => ⟨S1x512x4224, .f32⟩
  | 62 => ⟨S1x512x4224, .f32⟩
  | 63 => ⟨S1x512x4224, .f32⟩
  | 64 => ⟨S3x512x4224, .f32⟩
  | 65 => ⟨S3x512x66x64, .f32⟩
  | 66 => ⟨S64x512x66x3, .f32⟩
  | 67 => ⟨S32768x198, .f32⟩
  | 68 => ⟨S32768x64, .f32⟩
  | 69 => ⟨S1x64, .f32⟩
  | 70 => ⟨S32768x64, .f32⟩
  | 71 => ⟨S32768x64, .f32⟩
  | 72 => ⟨S64x32768, .f32⟩
  | 73 => ⟨S64x32768, .f32⟩
  | 74 => ⟨S64x32768, .f32⟩
  | 75 => ⟨S_, .f32⟩
  | 76 => ⟨S64x32768, .f32⟩
  | 77 => ⟨S64x32768, .f32⟩
  | 78 => ⟨S64x32768, .f32⟩
  | 79 => ⟨S64x32768, .f32⟩
  | 80 => ⟨S1x64x32768, .f32⟩
  | 81 => ⟨S64x32768, .f32⟩
  | 82 => ⟨S64x512x64, .f32⟩
  | 83 => ⟨S64x512x64, .f32⟩
  | 84 => ⟨S64x512x128, .f32⟩
  | 85 => ⟨S512x128x64, .f32⟩
  | 86 => ⟨S512x8192, .f32⟩
  | 87 => ⟨S512x8192, .f32⟩
  | 88 => ⟨S512x8192, .f32⟩
  | 89 => ⟨S_, .f32⟩
  | 90 => ⟨S512x8192, .f32⟩
  | 91 => ⟨S512x8192, .f32⟩
  | 92 => ⟨S512x8192, .f32⟩
  | 93 => ⟨S1x512x8192, .f32⟩
  | 94 => ⟨S1x512x8192, .f32⟩
  | 95 => ⟨S1x512x8192, .f32⟩
  | 96 => ⟨S3x512x8192, .f32⟩
  | 97 => ⟨S3x512x128x64, .f32⟩
  | 98 => ⟨S64x512x128x3, .f32⟩
  | 99 => ⟨S32768x384, .f32⟩
  | 100 => ⟨S32768x128, .f32⟩
  | 101 => ⟨S1x128, .f32⟩
  | 102 => ⟨S32768x128, .f32⟩
  | 103 => ⟨S32768x128, .f32⟩
  | 104 => ⟨S64x65536, .f32⟩
  | 105 => ⟨S64x65536, .f32⟩
  | 106 => ⟨S64x65536, .f32⟩
  | 107 => ⟨S_, .f32⟩
  | 108 => ⟨S64x65536, .f32⟩
  | 109 => ⟨S64x65536, .f32⟩
  | 110 => ⟨S_, .f32⟩
  | 111 => ⟨S64x65536, .f32⟩
  | 112 => ⟨S64x65536, .f32⟩
  | 113 => ⟨S64x512x128, .f32⟩
  | 114 => ⟨S64x512x64, .f32⟩
  | 115 => ⟨S64x32768, .f32⟩
  | 116 => ⟨S64x512x64, .f32⟩
  | 117 => ⟨S64x32768, .f32⟩
  | 118 => ⟨S64x32768, .f32⟩
  | 119 => ⟨S64x512x64, .f32⟩
  | 120 => ⟨S64x512x64, .f32⟩
  | 121 => ⟨S64x512x128, .f32⟩
  | 122 => ⟨S512x128x64, .f32⟩
  | 123 => ⟨S512x8192, .f32⟩
  | 124 => ⟨S512x8192, .f32⟩
  | 125 => ⟨S512x8192, .f32⟩
  | 126 => ⟨S_, .f32⟩
  | 127 => ⟨S512x8192, .f32⟩
  | _ => ⟨S64x1024, .f32⟩

abbrev hbmTy0_1 (i : Nat) : BufTy := match i % 128 with
  | 0 => ⟨S512x8192, .f32⟩
  | 1 => ⟨S512x8192, .f32⟩
  | 2 => ⟨S1x512x8192, .f32⟩
  | 3 => ⟨S1x512x8192, .f32⟩
  | 4 => ⟨S1x512x8192, .f32⟩
  | 5 => ⟨S3x512x8192, .f32⟩
  | 6 => ⟨S3x512x128x64, .f32⟩
  | 7 => ⟨S64x512x128x3, .f32⟩
  | 8 => ⟨S32768x384, .f32⟩
  | 9 => ⟨S32768x64, .f32⟩
  | 10 => ⟨S1x64, .f32⟩
  | 11 => ⟨S32768x64, .f32⟩
  | 12 => ⟨S32768x64, .f32⟩
  | 13 => ⟨S64x32768, .f32⟩
  | 14 => ⟨S64x32768, .f32⟩
  | 15 => ⟨S64x32768, .f32⟩
  | 16 => ⟨S_, .f32⟩
  | 17 => ⟨S64x32768, .f32⟩
  | 18 => ⟨S64x32768, .f32⟩
  | 19 => ⟨S64x32768, .f32⟩
  | 20 => ⟨S64x32768, .f32⟩
  | 21 => ⟨S1x64x32768, .f32⟩
  | 22 => ⟨S1x64x32768, .f32⟩
  | 23 => ⟨S2x64x32768, .f32⟩
  | _ => ⟨S64x1024, .f32⟩

abbrev hbmTy (i : Nat) : BufTy := match i / 128 with
  | 0 => hbmTy0_0 i
  | 1 => hbmTy0_1 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_4 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_5 : Ref sig .tc := ⟨.hbm, 107, rfl⟩
abbrev main_v90 : Ref sig .tc := ⟨.hbm, 108, rfl⟩
abbrev main_v91 : Ref sig .tc := ⟨.hbm, 109, rfl⟩
abbrev main_cst_6 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_7 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_8 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩

abbrev nD : Nat := 1
abbrev τ : Topo := Topo.v7x

variable {F : FTy → Type} [FloatOps F]
-- ==== Proof.Spec.lean ====
/- The mathematics of a two-layer diffusion-convolutional recurrent cell that starts from a zero state,
   written over the extended reals, and the few facts about its sums that the two programs share. -/
module

public import Idealize.ShloMosaic.Lib.Pointwise

@[expose] public section

set_option maxRecDepth 16384

noncomputable section

namespace Cert.Spec

open Idealize.ShloMosaic

/-- The number two, as the programs write it. -/
def two : EReal := Ideal.ofBits .f32 0x40000000#32

/-- One graph diffusion step of a node signal: node `n` receives `∑ j, A n j * v j`. -/
def step (A : Fin 512 → Fin 512 → EReal) (v : Fin 512 → EReal) (n : Fin 512) : EReal :=
  ∑ j : Fin 512, A n j * v j

/-- The Chebyshev family of a node signal `v`: the signal itself, its diffusion, and twice the second
    diffusion less the signal. -/
def cheb (A : Fin 512 → Fin 512 → EReal) (v : Fin 512 → EReal) (k : Fin 3) (n : Fin 512) : EReal :=
  if (k : ℕ) = 0 then v n else if (k : ℕ) = 1 then step A v n else two * step A (step A v) n - v n

/-- The diffusion convolution of `D` node signals at node `n`: every member of every signal's Chebyshev family,
    weighted. -/
def conv {D : ℕ} (A : Fin 512 → Fin 512 → EReal) (y : Fin D → Fin 512 → EReal) (w : Fin D → Fin 3 → EReal)
    (n : Fin 512) : EReal :=
  ∑ f : Fin D, ∑ k : Fin 3, cheb A (y f) k n * w f k

/-- The new state of a cell whose old state is zero: one less the update gate, times the candidate. -/
def gate (u c : EReal) : EReal := (1 - Ideal.logistic u) * Ideal.tanh c

/-- Row `3 f + k` of a weight matrix that stores the three weights of signal `f` next to one another. -/
def row {D R C : ℕ} (h : D * 3 ≤ R) (W : (⟨2, ![R, C]⟩ : Shape).Idx → EReal) (c : Fin C) (f : Fin D) (k : Fin 3) : EReal :=
  W (ix2 ⟨(f : ℕ) * 3 + (k : ℕ), by have := f.isLt; have := k.isLt; omega⟩ c)

/-- A square matrix held as an array, as a function of its two coordinates. -/
def mat (a : (⟨2, ![512, 512]⟩ : Shape).Idx → EReal) (i j : Fin 512) : EReal := a (ix2 i j)

/-- A cell's new state at node `n` and unit `u`, from the signals `y` and the two gates' weights and biases. Of the
    first gate's 128 columns only the last 64 matter: those of the update gate. -/
def cell {D R : ℕ} (h : D * 3 ≤ R) (A : Fin 512 → Fin 512 → EReal) (y : Fin D → Fin 512 → EReal)
    (wg : (⟨2, ![R, 128]⟩ : Shape).Idx → EReal) (bg : (⟨1, ![128]⟩ : Shape).Idx → EReal)
    (wc : (⟨2, ![R, 64]⟩ : Shape).Idx → EReal) (bc : (⟨1, ![64]⟩ : Shape).Idx → EReal) (n : Fin 512) (u : Fin 64) : EReal :=
  gate (conv A y (row h wg ⟨64 + (u : ℕ), by omega⟩) n + bg (ix1 ⟨64 + (u : ℕ), by omega⟩)) (conv A y (row h wc u) n + bc (ix1 u))

/-- The two input signals of batch entry `b`: node `j`'s two features stand next to one another. -/
def input (x : (⟨2, ![64, 1024]⟩ : Shape).Idx → EReal) (b : Fin 64) (f : Fin 2) (j : Fin 512) : EReal :=
  x (ix2 b ⟨(j : ℕ) * 2 + (f : ℕ), by omega⟩)

/-- The first cell's new state: batch entry `b`, node `n`, unit `u`. -/
def first (x : (⟨2, ![64, 1024]⟩ : Shape).Idx → EReal) (a : (⟨2, ![512, 512]⟩ : Shape).Idx → EReal)
    (wg : (⟨2, ![198, 128]⟩ : Shape).Idx → EReal) (bg : (⟨1, ![128]⟩ : Shape).Idx → EReal)
    (wc : (⟨2, ![198, 64]⟩ : Shape).Idx → EReal) (bc : (⟨1, ![64]⟩ : Shape).Idx → EReal)
    (b : Fin 64) (n : Fin 512) (u : Fin 64) : EReal :=
  cell (D := 2) (by decide) (mat a) (input x b) wg bg wc bc n u

/-- The second cell's new state: its 64 signals are the units of the first cell's new state `h`. -/
def second (h : Fin 64 → Fin 512 → Fin 64 → EReal) (a : (⟨2, ![512, 512]⟩ : Shape).Idx → EReal)
    (wg : (⟨2, ![384, 128]⟩ : Shape).Idx → EReal) (bg : (⟨1, ![128]⟩ : Shape).Idx → EReal)
    (wc : (⟨2, ![384, 64]⟩ : Shape).Idx → EReal) (bc : (⟨1, ![64]⟩ : Shape).Idx → EReal)
    (b : Fin 64) (n : Fin 512) (u : Fin 64) : EReal :=
  cell (D := 64) (by decide) (mat a) (fun f j => h b j f) wg bg wc bc n u

/-- A convolution depends only on the entries of its graph, its signals and its weights. -/
theorem conv_congr {D : ℕ} {A A' : Fin 512 → Fin 512 → EReal} {y y' : Fin D → Fin 512 → EReal} {w w' : Fin D → Fin 3 → EReal}
    (hA : ∀ i j, A i j = A' i j) (hy : ∀ f j, y f j = y' f j) (hw : ∀ f k, w f k = w' f k) (n : Fin 512) :
    conv A y w n = conv A' y' w' n := by
  rw [funext₂ hA, funext₂ hy, funext₂ hw]

/-- A constant zero signal has a zero Chebyshev family, whatever the graph. -/
theorem cheb_zero (A : Fin 512 → Fin 512 → EReal) (v : Fin 512 → EReal) (hv : ∀ j, v j = 0) (k : Fin 3)
    (n : Fin 512) : cheb A v k n = 0 := by
  have h1 : ∀ i, step A v i = 0 := fun i => by simp [step, hv]
  have h2 : step A (step A v) n = 0 := by unfold step; simp only [show ∀ j, (∑ x, A j x * v x) = 0 from h1]; simp
  unfold cheb
  split_ifs
  · exact hv n
  · exact h1 n
  · rw [h2, hv n]; simp

/-- Signals that are zero contribute nothing to a convolution: `E` signals of which only the first `D` may be
    nonzero convolve as those `D` do. -/
theorem conv_take {D E : ℕ} (hDE : D ≤ E) (A : Fin 512 → Fin 512 → EReal) (y : Fin E → Fin 512 → EReal)
    (w : Fin E → Fin 3 → EReal) (n : Fin 512) (hz : ∀ f : Fin E, D ≤ (f : ℕ) → ∀ j, y f j = 0) :
    conv A y w n = conv A (fun f : Fin D => y (f.castLE hDE)) (fun f : Fin D => w (f.castLE hDE)) n := by
  obtain ⟨d, rfl⟩ := Nat.exists_eq_add_of_le hDE
  unfold conv
  rw [Fin.sum_univ_add]
  have h0 : ∀ i : Fin d, (∑ k : Fin 3, cheb A (y (Fin.natAdd D i)) k n * w (Fin.natAdd D i) k) = 0 := fun i => by
    refine Finset.sum_eq_zero fun k _ => ?_
    rw [cheb_zero A _ (hz _ (by simp)) k n, zero_mul]
  rw [Finset.sum_congr rfl fun i _ => h0 i, Finset.sum_const_zero, add_zero]
  rfl

/-- A sum over the rows of a weight matrix, taken in the matrix's own order, is the convolution. -/
theorem conv_rows {D T : ℕ} (hT : D * 3 = T) (A : Fin 512 → Fin 512 → EReal) (y : Fin D → Fin 512 → EReal)
    (w : Fin D → Fin 3 → EReal) (n : Fin 512) (g : Fin T → EReal)
    (hg : ∀ (f : Fin D) (k : Fin 3) (h : (f : ℕ) * 3 + (k : ℕ) < T), g ⟨(f : ℕ) * 3 + (k : ℕ), h⟩ = cheb A (y f) k n * w f k) :
    ∑ q : Fin T, g q = conv A y w n := by
  rw [Fin.sum_univ_tiles D 3 hT g]
  exact Finset.sum_congr rfl fun f _ => Finset.sum_congr rfl fun k _ => hg f k _

/-- The same sum taken Chebyshev member by Chebyshev member, all signals of one member before the next. -/
theorem conv_members {D T : ℕ} (hT : 3 * D = T) (A : Fin 512 → Fin 512 → EReal) (y : Fin D → Fin 512 → EReal)
    (w : Fin D → Fin 3 → EReal) (n : Fin 512) (g : Fin T → EReal)
    (hg : ∀ (f : Fin D) (k : Fin 3) (h : (k : ℕ) * D + (f : ℕ) < T), g ⟨(k : ℕ) * D + (f : ℕ), h⟩ = cheb A (y f) k n * w f k) :
    ∑ q : Fin T, g q = conv A y w n := by
  rw [Fin.sum_univ_tiles 3 D hT g, Finset.sum_comm]
  exact Finset.sum_congr rfl fun f _ => Finset.sum_congr rfl fun k _ => hg f k _

/-- A row of a matrix product whose left row is a unit vector is that row of the right matrix. -/
theorem pick {T : ℕ} (q : Fin T) (p v : Fin T → EReal) (hp : ∀ i, p i = if i = q then 1 else 0) :
    ∑ i : Fin T, p i * v i = v q := by
  rw [Finset.sum_eq_single q]
  · rw [hp, if_pos rfl, one_mul]
  · intro i _ hi; rw [hp, if_neg hi, zero_mul]
  · intro h; exact absurd (Finset.mem_univ q) h

end Cert.Spec

end
-- ==== Proof.Zero.lean ====
module
public import proofs.«01_k».proof.Proof.Spec
public import proofs.«01_k».proof.Proof.Gen.Pre_fresh
public import Idealize.ShloMosaic.Lib.ReduceAll
@[expose] public section
set_option maxRecDepth 16384
noncomputable section

namespace Cert.Pre_fresh.Zero
open Cert.Pre_fresh Cert.Pre_fresh.Gen Idealize.ShloMosaic

/-- There is one index of a scalar. -/
instance : Subsingleton S_.Idx := ⟨fun a b => funext fun i => i.elim0⟩

/-- The precondition says that the hidden state is zero everywhere. -/
theorem hidden_zero [Facts] (x0 : FVec Ideal S64x1024 .f32) (x1 : FVec Ideal S512x512 .f32) (h : FVec Ideal S2x64x32768 .f32)
    (x3 : FVec Ideal S198x128 .f32) (x4 : FVec Ideal S128 .f32) (x5 : FVec Ideal S198x64 .f32) (x6 : FVec Ideal S64 .f32)
    (x7 : FVec Ideal S384x128 .f32) (x8 : FVec Ideal S128 .f32) (x9 : FVec Ideal S384x64 .f32) (x10 : FVec Ideal S64 .f32)
    (e : fn x0 x1 h x3 x4 x5 x6 x7 x8 x9 x10 = fun _ => 1#1) (i : S2x64x32768.Idx) : h i = 0 := by
  have e1 := Host.reduce_andi_all _ _ _ _ (Shape.Idx.first Facts.h_S_) (congrFun e (Shape.Idx.first Facts.h_S_)) i
  have e2 : BitVec.ofBool (decide ((h i : EReal) = Ideal.ofBits .f32 0x00000000#32)) = 1#1 := e1
  by_contra hn
  have hd : ¬ ((h i : EReal) = Ideal.ofBits .f32 0x00000000#32) := fun q => hn (q.trans Ideal.ofBits_zero_f32)
  rw [decide_eq_false hd] at e2
  exact absurd e2 (by decide)

end Cert.Pre_fresh.Zero
-- ==== Proof.KernelFirst.lean ====
/- The first cell of the kernel's block, read at one index: the 16 batch entries' features stacked along the rows,
   the reordered weights, and the cell's new state. -/
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem
open Cert.Spec

/-- Two columns of the staged input may be cut out at any of the 16 batch entries. -/
theorem slice_in : ∀ g : Fin 16, S512x32.Slices ![0, 2 * (g : ℕ)] S512x2 := by decide

/-- The eight feature columns of batch entry `g`: two columns of each Chebyshev member, then two columns `z`. -/
def feat0 (x y1 y2 : FVec Ideal S512x32 .f32) (z : FVec Ideal S512x2 .f32) (g : Fin 16) : FVec Ideal S512x8 .f32 :=
  concatenate S512x8 1 [⟨S512x2, extractStridedSlice S512x2 ![0, 2 * (g : ℕ)] x (slice_in g)⟩,
    ⟨S512x2, extractStridedSlice S512x2 ![0, 2 * (g : ℕ)] y1 (slice_in g)⟩,
    ⟨S512x2, extractStridedSlice S512x2 ![0, 2 * (g : ℕ)] y2 (slice_in g)⟩, ⟨S512x2, z⟩]
    concatenates_S512x2_S512x2_S512x2_S512x2_S512x8_d1

/-- The features of all 16 batch entries, one below the other. -/
def feats0 (x y1 y2 : FVec Ideal S512x32 .f32) (z : FVec Ideal S512x2 .f32) : FVec Ideal S8192x8 .f32 :=
  concatenate S8192x8 0 (List.ofFn fun g : Fin 16 => (⟨S512x8, feat0 x y1 y2 z g⟩ : (s : Shape) × (s.Idx → EReal)))
    concatenates_S512x8_S512x8_S512x8_S512x8_S512x8_S512x8_S512x8_S512x8_S512x8_S512x8_S512x8_S512x8_S512x8_S512x8_S512x8_S512x8_S8192x8_d0

/-- The kernel's two pre-activations of the first cell are the features times the weights plus the bias. -/
theorem pre0_eq (w : FVec Ideal S8x128 .f32) (v0 : Vec Ideal S512x512 .f32) (v15 : Vec Ideal S1x512x32 .f32) (b : Vec Ideal S1x128 .f32) :
    k0_pay14 w (k0_pay6 v15) (k0_pay7 v0 v15) (k0_pay8 v0 v15) (k0_pay9 (F := Ideal)) (k0_pay10 v0 v15) (k0_pay11 v0 v15)
      (k0_pay12 v0 v15) (k0_pay13 v15) b
    = addf (matmul dot_S8192x8_S8x128_S8192x128_1_0_0_1_n_n none (feats0 (k0_pay6 v15) (k0_pay7 v0 v15) (k0_pay8 v0 v15) (k0_pay9 (F := Ideal))) w
        (constant S8192x128 .f32 0x00000000#32)) (broadcastTo S8192x128 (shapeCast S1x128 b shapeCasts_S1x128_S1x128) broadcasts_S1x128_S8192x128) := rfl

/-- Row `512 g + n` of the stacked features is row `n` of batch entry `g`'s. -/
theorem feats0_at (x y1 y2 : FVec Ideal S512x32 .f32) (z : FVec Ideal S512x2 .f32) (g : Fin 16) (n : Fin 512) (k : Fin 8)
    (r : Fin 8192) (hr : (r : ℕ) = (g : ℕ) * 512 + (n : ℕ)) :
    feats0 x y1 y2 z (ix2 r k) = feat0 x y1 y2 z g (ix2 n k) := by
  have := n.isLt
  refine concatenate_ofFn_apply (t := S8192x8) (s₁ := S512x8) (0 : Fin 2) (feat0 x y1 y2 z) _ rfl 512 rfl (ix2 r k) g ?_ (ix2 n k) ?_ ?_
  · show (r : ℕ) / 512 = g
    omega
  · show (n : ℕ) = (r : ℕ) % 512
    omega
  · intro b hb
    fin_cases b
    · exact absurd rfl hb
    · rfl

/-- The staged input, without its leading axis of one. -/
theorem sig0_at (x : Vec Ideal S1x512x32 .f32) (n : Fin 512) (q : Fin 32) :
    k0_pay6 (F := Ideal) x (ix2 n q) = x (ix3 0 n q) := by
  pointwise [k0_pay6]

/-- Its diffusion. -/
theorem step0_at (a : Vec Ideal S512x512 .f32) (x : Vec Ideal S1x512x32 .f32) (n : Fin 512) (q : Fin 32) :
    k0_pay7 (F := Ideal) a x (ix2 n q) = step (mat a) (fun j => x (ix3 0 j q)) n := by
  pointwise [k0_pay7, k0_pay6, step, mat]

/-- Twice its second diffusion less itself. -/
theorem twice0_at (a : Vec Ideal S512x512 .f32) (x : Vec Ideal S1x512x32 .f32) (n : Fin 512) (q : Fin 32) :
    k0_pay8 (F := Ideal) a x (ix2 n q) = two * step (mat a) (step (mat a) (fun j => x (ix3 0 j q))) n - x (ix3 0 n q) := by
  pointwise [k0_pay8, k0_pay7, k0_pay6, step, mat, two]

/-- The signals of batch entry `g`: signal `f` is column `2 g + f` of the staged input. -/
def sig0 (x : Vec Ideal S1x512x32 .f32) (g : Fin 16) (f : Fin 2) (j : Fin 512) : EReal :=
  x (ix3 0 j ⟨2 * (g : ℕ) + (f : ℕ), by omega⟩)

/-- Column `2 k + f` of batch entry `g`'s features is member `k` of signal `f`'s Chebyshev family. -/
theorem feat0_at (a : Vec Ideal S512x512 .f32) (x : Vec Ideal S1x512x32 .f32) (g : Fin 16) (n : Fin 512) (f : Fin 2) (k : Fin 3)
    (h : (k : ℕ) * 2 + (f : ℕ) < 8) :
    feat0 (k0_pay6 x) (k0_pay7 a x) (k0_pay8 a x) (k0_pay9 (F := Ideal)) g (ix2 n ⟨(k : ℕ) * 2 + (f : ℕ), h⟩)
      = cheb (mat a) (sig0 x g f) k n := by
  have hf := f.isLt
  pointwise [feat0]
  unfold cheb sig0
  fin_vals k with hk
  all_goals simp only [hk, Nat.zero_mul, Nat.zero_add, Nat.one_mul, hf, Nat.reduceMul, ↓reduceIte, ↓reduceDIte, Nat.add_sub_cancel_left,
    Nat.not_ofNat_lt_one, one_ne_zero, OfNat.ofNat_ne_zero, OfNat.ofNat_ne_one]
  · exact sig0_at _ _ _
  · rw [dif_neg (by omega)]
    exact step0_at _ _ _ _
  · rw [dif_neg (by omega), dif_neg (by omega), dif_pos (by omega)]
    refine (congrArg _ (congrArg _ (Fin.ext ?_))).trans (twice0_at a x n ⟨2 * (g : ℕ) + (f : ℕ), by omega⟩)
    show 2 * (g : ℕ) + (4 + f - 2 - 2) = 2 * g + f
    omega

/-- The last two columns of the features are zero. -/
theorem feat0_pad (x y1 y2 : FVec Ideal S512x32 .f32) (g : Fin 16) (n : Fin 512) (i : Fin 2) (h : 6 + (i : ℕ) < 8) :
    feat0 x y1 y2 (k0_pay9 (F := Ideal)) g (ix2 n ⟨6 + (i : ℕ), h⟩) = 0 := by
  pointwise [feat0, k0_pay9]
  rw [dif_neg (by omega), dif_neg (by omega), dif_neg (by omega)]

/-- A pre-activation of the first cell: the convolution of the batch entry's two signals, plus the bias. -/
theorem pre0_at (w : FVec Ideal S8x128 .f32) (a : Vec Ideal S512x512 .f32) (x : Vec Ideal S1x512x32 .f32) (b : Vec Ideal S1x128 .f32)
    (g : Fin 16) (n : Fin 512) (r : Fin 8192) (hr : (r : ℕ) = (g : ℕ) * 512 + (n : ℕ)) (c : Fin 128) (v : Fin 2 → Fin 3 → EReal)
    (hv : ∀ (f : Fin 2) (k : Fin 3) (h : (k : ℕ) * 2 + (f : ℕ) < 8), w (ix2 ⟨(k : ℕ) * 2 + (f : ℕ), h⟩ c) = v f k) :
    k0_pay14 w (k0_pay6 x) (k0_pay7 a x) (k0_pay8 a x) (k0_pay9 (F := Ideal)) (k0_pay10 a x) (k0_pay11 a x)
      (k0_pay12 a x) (k0_pay13 x) b (ix2 r c) = conv (mat a) (sig0 x g) v n + b (ix2 0 c) := by
  rw [pre0_eq]
  pointwise
  simp only [feats0_at _ _ _ _ g n _ r hr]
  refine congrArg (· + _) ?_
  rw [Fin.sum_univ_two_halves 6 2 rfl]
  rw [Finset.sum_eq_zero (s := (Finset.univ : Finset (Fin 2))) (fun i _ => by rw [feat0_pad, zero_mul]), add_zero]
  refine conv_members (D := 2) rfl (mat a) (sig0 x g) v n _ fun f k h => ?_
  rw [hv f k (by omega), feat0_at]

/-- The reordered weights of the first cell: row `2 k + f` is the row of signal `f` and member `k` of the update gate's
    weights (left half) and of the candidate's (right half). `p` is the reordering matrix. -/
theorem weights0_at (wu wc : Vec Ideal S6x64 .f32) (p : Vec Ideal S8x6 .f32) (f : Fin 2) (k : Fin 3) (h : (k : ℕ) * 2 + (f : ℕ) < 8)
    (hp : ∀ q : Fin 6, p (ix2 ⟨(k : ℕ) * 2 + (f : ℕ), h⟩ q) = if q = ⟨(f : ℕ) * 3 + (k : ℕ), by omega⟩ then 1 else 0) (u : Fin 64) :
    k0_pay4 (F := Ideal) wu wc p (ix2 ⟨(k : ℕ) * 2 + (f : ℕ), h⟩ ⟨(u : ℕ), by omega⟩) = row (D := 2) (by decide) wu u f k
    ∧ k0_pay4 (F := Ideal) wu wc p (ix2 ⟨(k : ℕ) * 2 + (f : ℕ), h⟩ ⟨64 + (u : ℕ), by omega⟩) = row (D := 2) (by decide) wc u f k := by
  constructor
  · pointwise [k0_pay4]
    exact pick _ _ (fun q => wu (ix2 q u)) hp
  · pointwise [k0_pay4]
    exact pick _ _ (fun q => wc (ix2 q u)) hp

/-- The new state of a cell from its two pre-activations. -/
theorem state0_at (v : FVec Ideal S8192x128 .f32) (r : Fin 8192) (u : Fin 64) :
    k0_pay15 (F := Ideal) v (ix2 r u) = gate (v (ix2 r ⟨(u : ℕ), by omega⟩)) (v (ix2 r ⟨64 + (u : ℕ), by omega⟩)) := by
  pointwise [k0_pay15, gate]

end Cert.KernelIdeal.Block

end
-- ==== Proof.KernelSecond.lean ====
/- The second cell of the kernel's block, read at one index: the first cell's state laid out batch entry by batch
   entry along the columns, its Chebyshev family, the reordered weights, and the second cell's new state. -/
module

public import proofs.«01_k».proof.Proof.KernelFirst

@[expose] public section

set_option maxRecDepth 16384

noncomputable section

namespace Cert.KernelIdeal.Block

open Cert.KernelIdeal Cert.KernelIdeal.Gen Idealize.ShloMosaic Idealize.ShloMosaic.TcCoe Idealize.SL.Sem
open Cert.Spec

/-- The 512 rows of one batch entry may be cut out of the stacked state. -/
theorem slice_rows : ∀ g : Fin 16, S8192x64.Slices ![512 * (g : ℕ), 0] S512x64 := by decide

/-- The 64 columns of one batch entry may be cut out of the state laid out along the columns. -/
theorem slice_cols : ∀ g : Fin 16, S512x1024.Slices ![0, 64 * (g : ℕ)] S512x64 := by decide

/-- The rows of batch entry `g` of a stacked state. -/
def rows (s : FVec Ideal S8192x64 .f32) (g : Fin 16) : FVec Ideal S512x64 .f32 :=
  extractStridedSlice S512x64 ![512 * (g : ℕ), 0] s (slice_rows g)

/-- The 16 batch entries of a stacked state, laid side by side. -/
def side (s : FVec Ideal S8192x64 .f32) : FVec Ideal S512x1024 .f32 :=
  concatenate S512x1024 1 (List.ofFn fun g : Fin 16 => (⟨S512x64, rows s g⟩ : (t : Shape) × (t.Idx → EReal)))
    concatenates_S512x64_S512x64_S512x64_S512x64_S512x64_S512x64_S512x64_S512x64_S512x64_S512x64_S512x64_S512x64_S512x64_S512x64_S512x64_S512x64_S512x1024_d1

/-- The kernel's side-by-side state is the state so laid out. -/
theorem side_eq (v : FVec Ideal S8192x128 .f32) : k0_pay16 (F := Ideal) v = side (k0_pay15 v) := rfl

/-- Column `64 g + u` of the side-by-side state is row `512 g + n` and column `u` of the stacked one. -/
theorem side_at (s : FVec Ideal S8192x64 .f32) (g : Fin 16) (n : Fin 512) (u : Fin 64) (q : Fin 1024) (hq : (q : ℕ) = 64 * (g : ℕ) + (u : ℕ)) :
    side s (ix2 n q) = s (ix2 ⟨512 * (g : ℕ) + (n : ℕ), by omega⟩ u) := by
  have := u.isLt
  refine (concatenate_ofFn_apply (t := S512x1024) (s₁ := S512x64) (1 : Fin 2) (rows s) _ rfl 64 rfl (ix2 n q) g ?_ (ix2 n u) ?_ ?_).trans ?_
  · show (q : ℕ) / 64 = g
    omega
  · show (u : ℕ) = (q : ℕ) % 64
    omega
  · intro b hb
    fin_cases b
    · rfl
    · exact absurd rfl hb
  · pointwise [rows]

/-- The diffusion of the side-by-side state. -/
theorem step1_at (a : Vec Ideal S512x512 .f32) (v : FVec Ideal S8192x128 .f32) (n : Fin 512) (q : Fin 1024) :
    k0_pay17 (F := Ideal) a v (ix2 n q) = step (mat a) (fun j => side (k0_pay15 v) (ix2 j q)) n := by
  rw [k0_pay17, side_eq]
  pointwise [step, mat]

/-- Twice its second diffusion less itself. -/
theorem twice1_at (a : Vec Ideal S512x512 .f32) (v : FVec Ideal S8192x128 .f32) (n : Fin 512) (q : Fin 1024) :
    k0_pay18 (F := Ideal) a v (ix2 n q)
      = two * step (mat a) (step (mat a) (fun j => side (k0_pay15 v) (ix2 j q))) n - side (k0_pay15 v) (ix2 n q) := by
  rw [k0_pay18, k0_pay17, side_eq]
  pointwise [step, mat, two]

/-- The 192 feature columns of batch entry `g`: its 64 columns of each of three side-by-side arrays. -/
def feat1 (y0 y1 y2 : FVec Ideal S512x1024 .f32) (g : Fin 16) : FVec Ideal S512x192 .f32 :=
  concatenate S512x192 1 [⟨S512x64, extractStridedSlice S512x64 ![0, 64 * (g : ℕ)] y0 (slice_cols g)⟩,
    ⟨S512x64, extractStridedSlice S512x64 ![0, 64 * (g : ℕ)] y1 (slice_cols g)⟩,
    ⟨S512x64, extractStridedSlice S512x64 ![0, 64 * (g : ℕ)] y2 (slice_cols g)⟩] concatenates_S512x64_S512x64_S512x64_S512x192_d1

/-- The features of all 16 batch entries, one below the other. -/
def feats1 (y0 y1 y2 : FVec Ideal S512x1024 .f32) : FVec Ideal S8192x192 .f32 :=
  concatenate S8192x192 0 (List.ofFn fun g : Fin 16 => (⟨S512x192, feat1 y0 y1 y2 g⟩ : (s : Shape) × (s.Idx → EReal)))
    concatenates_S512x192_S512x192_S512x192_S512x192_S512x192_S512x192_S512x192_S512x192_S512x192_S512x192_S512x192_S512x192_S512x192_S512x192_S512x192_S512x192_S8192x192_d0

/-- The second cell's two pre-activations, as an array: the features times the weights plus the bias. -/
def pre1 (w : FVec Ideal S192x128 .f32) (y0 y1 y2 : FVec Ideal S512x1024 .f32) (b : Vec Ideal S1x128 .f32) : FVec Ideal S8192x128 .f32 :=
  addf (matmul dot_S8192x192_S192x128_S8192x128_1_0_0_1_n_n none (feats1 y0 y1 y2) w
    (constant S8192x128 .f32 0x00000000#32)) (broadcastTo S8192x128 (shapeCast S1x128 b shapeCasts_S1x128_S1x128) broadcasts_S1x128_S8192x128)

/-- The second cell forms its new state from those pre-activations exactly as the first cell does. -/
theorem state1_eq (w : FVec Ideal S192x128 .f32) (a : Vec Ideal S512x512 .f32) (v : FVec Ideal S8192x128 .f32) (b : Vec Ideal S1x128 .f32) :
    k0_pay28 w (k0_pay16 v) (k0_pay17 a v) (k0_pay18 a v) (k0_pay19 a v) (k0_pay20 a v) (k0_pay21 a v) (k0_pay22 a v) (k0_pay23 a v)
      (k0_pay24 a v) (k0_pay25 v) (k0_pay26 a v) (k0_pay27 a v) b
    = k0_pay15 (pre1 w (k0_pay16 v) (k0_pay17 a v) (k0_pay18 a v) b) := rfl

/-- Row `512 g + n` of the stacked features is row `n` of batch entry `g`'s. -/
theorem feats1_at (y0 y1 y2 : FVec Ideal S512x1024 .f32) (g : Fin 16) (n : Fin 512) (k : Fin 192)
    (r : Fin 8192) (hr : (r : ℕ) = (g : ℕ) * 512 + (n : ℕ)) :
    feats1 y0 y1 y2 (ix2 r k) = feat1 y0 y1 y2 g (ix2 n k) := by
  have := n.isLt
  refine concatenate_ofFn_apply (t := S8192x192) (s₁ := S512x192) (0 : Fin 2) (feat1 y0 y1 y2) _ rfl 512 rfl (ix2 r k) g ?_ (ix2 n k) ?_ ?_
  · show (r : ℕ) / 512 = g
    omega
  · show (n : ℕ) = (r : ℕ) % 512
    omega
  · intro b hb
    fin_cases b
    · exact absurd rfl hb
    · rfl

/-- The signals the second cell sees of batch entry `g`: signal `f` is column `f` of the entry's rows of the state. -/
def sig1 (s : FVec Ideal S8192x64 .f32) (g : Fin 16) (f : Fin 64) (j : Fin 512) : EReal :=
  s (ix2 ⟨512 * (g : ℕ) + (j : ℕ), by omega⟩ f)

/-- Column `64 k + f` of batch entry `g`'s features is member `k` of signal `f`'s Chebyshev family. -/
theorem feat1_at (a : Vec Ideal S512x512 .f32) (v : FVec Ideal S8192x128 .f32) (g : Fin 16) (n : Fin 512) (f : Fin 64) (k : Fin 3)
    (h : (k : ℕ) * 64 + (f : ℕ) < 192) :
    feat1 (k0_pay16 v) (k0_pay17 a v) (k0_pay18 a v) g (ix2 n ⟨(k : ℕ) * 64 + (f : ℕ), h⟩)
      = cheb (mat a) (sig1 (k0_pay15 v) g f) k n := by
  have hf := f.isLt
  have hs : ∀ j : Fin 512, side (k0_pay15 v) (ix2 j ⟨64 * (g : ℕ) + (f : ℕ), by omega⟩) = sig1 (k0_pay15 v) g f j :=
    fun j => side_at _ g j f _ rfl
  pointwise [feat1]
  unfold cheb
  fin_vals k with hk
  all_goals simp only [hk, Nat.zero_mul, Nat.zero_add, Nat.one_mul, hf, Nat.reduceMul, ↓reduceIte, ↓reduceDIte, Nat.add_sub_cancel_left,
    one_ne_zero, OfNat.ofNat_ne_zero, OfNat.ofNat_ne_one]
  · rw [side_eq]
    exact hs n
  · rw [dif_neg (by omega)]
    refine (step1_at a v n ⟨64 * (g : ℕ) + (f : ℕ), by omega⟩).trans ?_
    simp only [hs]
  · rw [dif_neg (by omega), dif_neg (by omega)]
    refine (congrArg _ (congrArg _ (Fin.ext ?_))).trans ((twice1_at a v n ⟨64 * (g : ℕ) + (f : ℕ), by omega⟩).trans ?_)
    · show 64 * (g : ℕ) + (128 + f - 64 - 64) = 64 * g + f
      omega
    · simp only [hs]

/-- A pre-activation of the second cell: the convolution of the batch entry's 64 signals, plus the bias. -/
theorem pre1_at (w : FVec Ideal S192x128 .f32) (a : Vec Ideal S512x512 .f32) (s : FVec Ideal S8192x128 .f32) (b : Vec Ideal S1x128 .f32)
    (g : Fin 16) (n : Fin 512) (r : Fin 8192) (hr : (r : ℕ) = (g : ℕ) * 512 + (n : ℕ)) (c : Fin 128) (v : Fin 64 → Fin 3 → EReal)
    (hv : ∀ (f : Fin 64) (k : Fin 3) (h : (k : ℕ) * 64 + (f : ℕ) < 192), w (ix2 ⟨(k : ℕ) * 64 + (f : ℕ), h⟩ c) = v f k) :
    pre1 w (k0_pay16 s) (k0_pay17 a s) (k0_pay18 a s) b (ix2 r c) = conv (mat a) (sig1 (k0_pay15 s) g) v n + b (ix2 0 c) := by
  pointwise [pre1]
  simp only [feats1_at _ _ _ g n _ r hr]
  refine congrArg (· + _) ?_
  refine conv_members (D := 64) rfl (mat a) (sig1 (k0_pay15 s) g) v n _ fun f k h => ?_
  rw [hv f k (by omega), feat1_at]

/-- The reordered weights of the second cell: row `64 k + f` is the row of signal `f` and member `k` of the update
    gate's weights (left half) and of the candidate's (right half). `p` is the reordering matrix. -/
theorem weights1_at (wu wc : Vec Ideal S192x64 .f32) (p : Vec Ideal S192x192 .f32) (f : Fin 64) (k : Fin 3) (h : (k : ℕ) * 64 + (f : ℕ) < 192)
    (hp : ∀ q : Fin 192, p (ix2 ⟨(k : ℕ) * 64 + (f : ℕ), h⟩ q) = if q = ⟨(f : ℕ) * 3 + (k : ℕ), by omega⟩ then 1 else 0) (u : Fin 64) :
    k0_pay5 (F := Ideal) wu wc p (ix2 ⟨(k : ℕ) * 64 + (f : ℕ), h⟩ ⟨(u : ℕ), by omega⟩) = row (D := 64) (by decide) wu u f k
    ∧ k0_pay5 (F := Ideal) wu wc p (ix2 ⟨(k : ℕ) * 64 + (f : ℕ), h⟩ ⟨64 + (u : ℕ), by omega⟩) = row (D := 64) (by decide) wc u f k := by
  constructor
  · pointwise [k0_pay5]
    exact pick _ _ (fun q => wu (ix2 q u)) hp
  · pointwise [k0_pay5]
    exact pick _ _ (fun q => wc (ix2 q u)) hp

end Cert.KernelIdeal.Block

end
-- ==== Proof.KernelCells.lean ====
/- The kernel's two cells of one block, as the cells of the mathematics: whatever the staged blocks are, if they hold
   the batch entry's input, the graph, the reordering tables and the parameters, the values the body computes are the
   two cells' new states. -/
module

public import proofs.«01_k».proof.Proof.KernelSecond
public import proofs.«01_k».proof.Proof.Gen.KernelIdeal.Frame

@[expose] public section

set_option maxRecDepth 16384

noncomputable section

namespace Cert.KernelIdeal.Block

open Cert.KernelIdeal Cert.KernelIdeal.Gen Idealize.ShloMosaic Idealize.ShloMosaic.TcCoe Idealize.SL.Sem
open Cert.Spec

section
variable (x0 : Vec Ideal S1x512x32 .f32) (x1 : Vec Ideal S512x512 .f32) (x2 : Vec Ideal S8x6 .f32) (x3 : Vec Ideal S6x128 .f32)
  (x4 : Vec Ideal S6x64 .f32) (x5 : Vec Ideal S1x128 .f32) (x6 : Vec Ideal S192x192 .f32) (x7 : Vec Ideal S192x128 .f32)
  (x8 : Vec Ideal S192x64 .f32) (x9 : Vec Ideal S1x128 .f32)

/-- The first cell: batch entry `g` of the block is batch entry `b` of the input. -/
theorem first_at (X : FVec Ideal S64x1024 .f32) (A : FVec Ideal S512x512 .f32) (Wg : FVec Ideal S198x128 .f32) (bg : FVec Ideal S128 .f32)
    (Wc : FVec Ideal S198x64 .f32) (bc : FVec Ideal S64 .f32) (b : Fin 64) (g : Fin 16)
    (h0 : ∀ (f : Fin 2) (j : Fin 512), x0 (ix3 0 j ⟨2 * (g : ℕ) + (f : ℕ), by omega⟩) = input X b f j)
    (h1 : ∀ i j : Fin 512, x1 (ix2 i j) = A (ix2 i j))
    (h2 : ∀ (f : Fin 2) (k : Fin 3) (q : Fin 6), x2 (ix2 ⟨(k : ℕ) * 2 + (f : ℕ), by omega⟩ q) = if q = ⟨(f : ℕ) * 3 + (k : ℕ), by omega⟩ then 1 else 0)
    (h3 : ∀ (q : Fin 6) (u : Fin 64), x3 (ix2 q ⟨64 + (u : ℕ), by omega⟩) = Wg (ix2 ⟨(q : ℕ), by omega⟩ ⟨64 + (u : ℕ), by omega⟩))
    (h4 : ∀ (q : Fin 6) (u : Fin 64), x4 (ix2 q u) = Wc (ix2 ⟨(q : ℕ), by omega⟩ u))
    (h5 : ∀ u : Fin 64, x5 (ix2 0 ⟨(u : ℕ), by omega⟩) = bg (ix1 ⟨64 + (u : ℕ), by omega⟩))
    (h5' : ∀ u : Fin 64, x5 (ix2 0 ⟨64 + (u : ℕ), by omega⟩) = bc (ix1 u))
    (n : Fin 512) (r : Fin 8192) (hr : (r : ℕ) = (g : ℕ) * 512 + (n : ℕ)) (u : Fin 64) :
    k0_pay15 (k0_pay30 x0 x1 x2 x3 x4 x5 x6 x7 x8 x9) (ix2 r u) = first X A Wg bg Wc bc b n u := by
  rw [state0_at]
  unfold k0_pay30
  rw [pre0_at _ _ _ _ g n r hr _ _ (fun f k h => (weights0_at _ _ _ f k h (fun q => by pointwise; exact h2 f k q) u).1),
    pre0_at _ _ _ _ g n r hr _ _ (fun f k h => (weights0_at _ _ _ f k h (fun q => by pointwise; exact h2 f k q) u).2)]
  have hA : ∀ i j : Fin 512, mat (View.ld x1 r0_0) i j = mat A i j := fun i j => by pointwise [mat]; exact h1 i j
  have hy : ∀ (f : Fin 2) (j : Fin 512), sig0 (View.ld x0 r0_7) g f j = input X b f j := fun f j => by
    pointwise [sig0]; exact h0 f j
  refine congrArg₂ gate (congrArg₂ (· + ·) (conv_congr hA hy (fun f k => ?_) n) ?_) (congrArg₂ (· + ·) (conv_congr hA hy (fun f k => ?_) n) ?_)
  · pointwise [row]; exact h3 _ u
  · pointwise; exact h5 u
  · pointwise [row]; exact h4 _ u
  · pointwise; exact h5' u

/-- The second cell, on a first cell's state `s` that already is the mathematics' state `h` of batch entry `b`. -/
theorem second_at (h : Fin 64 → Fin 512 → Fin 64 → EReal) (A : FVec Ideal S512x512 .f32) (Wg : FVec Ideal S384x128 .f32) (bg : FVec Ideal S128 .f32)
    (Wc : FVec Ideal S384x64 .f32) (bc : FVec Ideal S64 .f32) (b : Fin 64) (g : Fin 16)
    (h0 : ∀ (f : Fin 64) (j : Fin 512), sig1 (k0_pay15 (k0_pay30 x0 x1 x2 x3 x4 x5 x6 x7 x8 x9)) g f j = h b j f)
    (h1 : ∀ i j : Fin 512, x1 (ix2 i j) = A (ix2 i j))
    (h6 : ∀ (f : Fin 64) (k : Fin 3) (q : Fin 192), x6 (ix2 ⟨(k : ℕ) * 64 + (f : ℕ), by omega⟩ q) = if q = ⟨(f : ℕ) * 3 + (k : ℕ), by omega⟩ then 1 else 0)
    (h7 : ∀ (q : Fin 192) (u : Fin 64), x7 (ix2 q ⟨64 + (u : ℕ), by omega⟩) = Wg (ix2 ⟨(q : ℕ), by omega⟩ ⟨64 + (u : ℕ), by omega⟩))
    (h8 : ∀ (q : Fin 192) (u : Fin 64), x8 (ix2 q u) = Wc (ix2 ⟨(q : ℕ), by omega⟩ u))
    (h9 : ∀ u : Fin 64, x9 (ix2 0 ⟨(u : ℕ), by omega⟩) = bg (ix1 ⟨64 + (u : ℕ), by omega⟩))
    (h9' : ∀ u : Fin 64, x9 (ix2 0 ⟨64 + (u : ℕ), by omega⟩) = bc (ix1 u))
    (n : Fin 512) (r : Fin 8192) (hr : (r : ℕ) = (g : ℕ) * 512 + (n : ℕ)) (u : Fin 64) :
    k0_pay31 x0 x1 x2 x3 x4 x5 x6 x7 x8 x9 (ix2 r u) = second h A Wg bg Wc bc b n u := by
  unfold k0_pay31
  generalize k0_pay30 x0 x1 x2 x3 x4 x5 x6 x7 x8 x9 = s at h0 ⊢
  rw [state1_eq, state0_at,
    pre1_at _ _ _ _ g n r hr _ _ (fun f k h => (weights1_at _ _ _ f k h (fun q => by pointwise; exact h6 f k q) u).1),
    pre1_at _ _ _ _ g n r hr _ _ (fun f k h => (weights1_at _ _ _ f k h (fun q => by pointwise; exact h6 f k q) u).2)]
  have hA : ∀ i j : Fin 512, mat (View.ld x1 r0_0) i j = mat A i j := fun i j => by pointwise [mat]; exact h1 i j
  refine congrArg₂ gate (congrArg₂ (· + ·) (conv_congr hA h0 (fun f k => ?_) n) ?_) (congrArg₂ (· + ·) (conv_congr hA h0 (fun f k => ?_) n) ?_)
  · pointwise [row]; exact h7 _ u
  · pointwise; exact h9 u
  · pointwise [row]; exact h8 _ u
  · pointwise; exact h9' u
end

end Cert.KernelIdeal.Block

end
-- ==== Proof.Entry.lean ====
module
public import proofs.«01_k».proof.Proof.KernelCells
public import Idealize.ShloMosaic.Lib.Claim
@[expose] public section
set_option maxRecDepth 16384
noncomputable section

namespace Cert.KernelIdeal.Entry
open Cert.KernelIdeal Cert.KernelIdeal.Gen Idealize.ShloMosaic Idealize.ShloMosaic.TcCoe Idealize.SL.Sem
open Cert.Spec

/-- The inputs as the host lays them out: for each group of sixteen batch members, nodes down and the two features of
    each member side by side. -/
def laid (x : FVec Ideal S64x1024 .f32) : FVec Ideal S4x512x32 .f32 :=
  shapeCast S4x512x32
    (transpose S4x512x16x2 [0, 2, 1, 3] (fun i => shapeCast S4x16x512x2 x shapeCasts_S64x1024_S4x16x512x2 i)
      transposes_S4x16x512x2_S4x512x16x2_0_2_1_3) shapeCasts_S4x512x16x2_S4x512x32

/-- The two bias vectors of a layer side by side: the update half of the gates' bias, then the candidate's. -/
def biases (p : FVec Ideal S128 .f32) (q : FVec Ideal S64 .f32) : FVec Ideal S1x128 .f32 :=
  shapeCast S1x128
    (concatenate S128 0 [⟨S64, extractStridedSlice S64 ![64] p slices_S128_S64_64⟩, ⟨S64, q⟩]
      concatenates_S64_S64_S128_d0) shapeCasts_S128_S1x128

/-- Entry of the laid out inputs: group `t`, node `j`, member `g`, feature `f` is feature `f` of node `j` of batch
    member `16 t + g`. -/
theorem laid_at (x : FVec Ideal S64x1024 .f32) (t : Fin 4) (f : Fin 2) (g : Fin 16) (j : Fin 512) (b : Fin 64)
    (hb : (b : ℕ) = t * 16 + g) :
    laid x (ix3 t j ⟨2 * g + f, by omega⟩) = input x b f j := by
  obtain ⟨b, hb'⟩ := b
  obtain rfl : b = t * 16 + g := hb
  pointwise [laid, input]

/-- The left half of the biases is the update half of the gates' bias. -/
theorem biases_left (p : FVec Ideal S128 .f32) (q : FVec Ideal S64 .f32) (u : Fin 64) :
    biases p q (ix2 0 ⟨u, by omega⟩) = p (ix1 ⟨64 + u, by omega⟩) := by
  pointwise [biases]

/-- The right half of the biases is the candidate's bias. -/
theorem biases_right (p : FVec Ideal S128 .f32) (q : FVec Ideal S64 .f32) (u : Fin 64) :
    biases p q (ix2 0 ⟨64 + u, by omega⟩) = q (ix1 u) := by
  pointwise [biases]

variable (m : (ℓ : Loc nD τ sig) → Buf (Elt Ideal) ℓ) (c : Dev nD)

/-- What the region finds of the inputs. -/
theorem V_v2 : V m c main_v2 = laid (m ((c : Thread nD τ).loc main_arg0)) := by
  change StableHlo.after hostOps0 (fun b => m (c, b)) (Proc.devRef .tc main_v2) = _
  entry_read
  rfl

/-- What the region finds of the first layer's biases. -/
theorem V_v5 : V m c main_v5 = biases (m ((c : Thread nD τ).loc main_arg4)) (m ((c : Thread nD τ).loc main_arg6)) := by
  change StableHlo.after hostOps0 (fun b => m (c, b)) (Proc.devRef .tc main_v5) = _
  entry_read
  rfl

/-- What the region finds of the second layer's biases. -/
theorem V_v8 : V m c main_v8 = biases (m ((c : Thread nD τ).loc main_arg8)) (m ((c : Thread nD τ).loc main_arg10)) := by
  change StableHlo.after hostOps0 (fun b => m (c, b)) (Proc.devRef .tc main_v8) = _
  entry_read
  rfl

/-- What the region finds of the first layer's gate weights: the first six rows. -/
theorem V_v9 : V m c main_v9 = extractStridedSlice S6x128 ![0, 0] (m ((c : Thread nD τ).loc main_arg3) : FVec Ideal S198x128 .f32)
    slices_S198x128_S6x128_0_0 := by
  change StableHlo.after hostOps0 (fun b => m (c, b)) (Proc.devRef .tc main_v9) = _
  entry_read
  rfl

/-- What the region finds of the first layer's candidate weights: the first six rows. -/
theorem V_v10 : V m c main_v10 = extractStridedSlice S6x64 ![0, 0] (m ((c : Thread nD τ).loc main_arg5) : FVec Ideal S198x64 .f32)
    slices_S198x64_S6x64_0_0 := by
  change StableHlo.after hostOps0 (fun b => m (c, b)) (Proc.devRef .tc main_v10) = _
  entry_read
  rfl

/-- What the region finds of the second layer's gate weights: the first 192 rows. -/
theorem V_v11 : V m c main_v11 = extractStridedSlice S192x128 ![0, 0] (m ((c : Thread nD τ).loc main_arg7) : FVec Ideal S384x128 .f32)
    slices_S384x128_S192x128_0_0 := by
  change StableHlo.after hostOps0 (fun b => m (c, b)) (Proc.devRef .tc main_v11) = _
  entry_read
  rfl

/-- What the region finds of the second layer's candidate weights: the first 192 rows. -/
theorem V_v12 : V m c main_v12 = extractStridedSlice S192x64 ![0, 0] (m ((c : Thread nD τ).loc main_arg9) : FVec Ideal S384x64 .f32)
    slices_S384x64_S192x64_0_0 := by
  change StableHlo.after hostOps0 (fun b => m (c, b)) (Proc.devRef .tc main_v12) = _
  entry_read
  rfl

/-- What the region finds of the first row-selection table. -/
theorem V_cst : V m c main_cst = (show FVec Ideal S8x6 .f32 from fun i => FloatOps.ofBits .f32 (lit0 (S8x6.rowMajor i))) := by
  change StableHlo.after hostOps0 (fun b => m (c, b)) (Proc.devRef .tc main_cst) = _
  entry_read
  rfl

/-- What the region finds of the second row-selection table. -/
theorem V_cst_0 : V m c main_cst_0 = (show FVec Ideal S192x192 .f32 from fun i => FloatOps.ofBits .f32 (lit1 (S192x192.rowMajor i))) := by
  change StableHlo.after hostOps0 (fun b => m (c, b)) (Proc.devRef .tc main_cst_0) = _
  entry_read
  rfl

/-- At grid point `t` the inputs' window stands on group `t`; every other input window stands on its whole array. -/
theorem idx : ∀ t : Fin cfg0.N,
    win0_0.index t = ![t.val, 0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![0, 0] :=
  (by decide +kernel : ∀ t : Fin grid0.N, _)

/-- The block of inputs at grid point `t`. -/
theorem blk0 (t : Fin cfg0.N) (j : Fin 512) (q : Fin 32) :
    (iblk m c 0 t : FVec Ideal S1x512x32 .f32) (ix3 0 j q) = V m c main_v2 (ix3 (⟨t, t.isLt⟩ : Fin 4) j q) := by
  blk_simp [iblk]
  congr 1
  blk_ext [idx t]

/-- The block of the adjacency matrix is the whole array. -/
theorem blk1 (t : Fin cfg0.N) (i : Fin 512) (j : Fin 512) :
    (iblk m c 1 t : FVec Ideal S512x512 .f32) (ix2 i j) = V m c main_arg1 (ix2 i j) := by
  blk_simp [iblk]
  congr 1
  blk_ext [idx t]

/-- The block of the first row-selection table is the whole array. -/
theorem blk2 (t : Fin cfg0.N) (i : Fin 8) (j : Fin 6) :
    (iblk m c 2 t : FVec Ideal S8x6 .f32) (ix2 i j) = V m c main_cst (ix2 i j) := by
  blk_simp [iblk]
  congr 1
  blk_ext [idx t]

/-- The block of the first layer's gate weights is the whole array. -/
theorem blk3 (t : Fin cfg0.N) (i : Fin 6) (j : Fin 128) :
    (iblk m c 3 t : FVec Ideal S6x128 .f32) (ix2 i j) = V m c main_v9 (ix2 i j) := by
  blk_simp [iblk]
  congr 1
  blk_ext [idx t]

/-- The block of the first layer's candidate weights is the whole array. -/
theorem blk4 (t : Fin cfg0.N) (i : Fin 6) (j : Fin 64) :
    (iblk m c 4 t : FVec Ideal S6x64 .f32) (ix2 i j) = V m c main_v10 (ix2 i j) := by
  blk_simp [iblk]
  congr 1
  blk_ext [idx t]

/-- The block of the first layer's biases is the whole array. -/
theorem blk5 (t : Fin cfg0.N) (i : Fin 1) (j : Fin 128) :
    (iblk m c 5 t : FVec Ideal S1x128 .f32) (ix2 i j) = V m c main_v5 (ix2 i j) := by
  blk_simp [iblk]
  congr 1
  blk_ext [idx t]

/-- The block of the second row-selection table is the whole array. -/
theorem blk6 (t : Fin cfg0.N) (i : Fin 192) (j : Fin 192) :
    (iblk m c 6 t : FVec Ideal S192x192 .f32) (ix2 i j) = V m c main_cst_0 (ix2 i j) := by
  blk_simp [iblk]
  congr 1
  blk_ext [idx t]

/-- The block of the second layer's gate weights is the whole array. -/
theorem blk7 (t : Fin cfg0.N) (i : Fin 192) (j : Fin 128) :
    (iblk m c 7 t : FVec Ideal S192x128 .f32) (ix2 i j) = V m c main_v11 (ix2 i j) := by
  blk_simp [iblk]
  congr 1
  blk_ext [idx t]

/-- The block of the second layer's candidate weights is the whole array. -/
theorem blk8 (t : Fin cfg0.N) (i : Fin 192) (j : Fin 64) :
    (iblk m c 8 t : FVec Ideal S192x64 .f32) (ix2 i j) = V m c main_v12 (ix2 i j) := by
  blk_simp [iblk]
  congr 1
  blk_ext [idx t]

/-- The block of the second layer's biases is the whole array. -/
theorem blk9 (t : Fin cfg0.N) (i : Fin 1) (j : Fin 128) :
    (iblk m c 9 t : FVec Ideal S1x128 .f32) (ix2 i j) = V m c main_v8 (ix2 i j) := by
  blk_simp [iblk]
  congr 1
  blk_ext [idx t]

end Cert.KernelIdeal.Entry
-- ==== Proof.TableSecond.lean ====
module
public import proofs.«01_k».proof.Proof.KernelFirst
@[expose] public section
set_option maxRecDepth 16384
noncomputable section

namespace Cert.KernelIdeal.Tables
open Cert.KernelIdeal Cert.KernelIdeal.Gen Idealize.ShloMosaic

/-- Rows `32 p` to `32 p + 31` of the second selection table are as they should be: row `k * 64 + f` holds a one in
    column `f * 3 + k` and zeros elsewhere. -/
abbrev Rows (p : Fin 6) : Prop :=
  ∀ a : Fin 32, ∀ b : Fin 192, lit1 ⟨(p * 32 + a : ℕ) * 192 + b, (by omega : (p * 32 + a : ℕ) * 192 + b < 36864)⟩ =
    if (b : ℕ) = (p * 32 + a) % 64 * 3 + (p * 32 + a) / 64 then 0x3F800000#32 else 0x00000000#32

/-- The first 32 rows, by evaluation. -/
theorem rows_0 : Rows 0 := by decide +kernel
/-- The next 32 rows, by evaluation. -/
theorem rows_1 : Rows 1 := by decide +kernel
/-- The next 32 rows, by evaluation. -/
theorem rows_2 : Rows 2 := by decide +kernel
/-- The next 32 rows, by evaluation. -/
theorem rows_3 : Rows 3 := by decide +kernel
/-- The next 32 rows, by evaluation. -/
theorem rows_4 : Rows 4 := by decide +kernel
/-- The last 32 rows, by evaluation. -/
theorem rows_5 : Rows 5 := by decide +kernel

/-- Every block of 32 rows. -/
theorem rows : ∀ p : Fin 6, Rows p
  | 0 => rows_0 | 1 => rows_1 | 2 => rows_2 | 3 => rows_3 | 4 => rows_4 | 5 => rows_5

end Cert.KernelIdeal.Tables
-- ==== Proof.Tables.lean ====
module
public import proofs.«01_k».proof.Proof.TableSecond
@[expose] public section
set_option maxRecDepth 16384
noncomputable section

namespace Cert.KernelIdeal.Tables
open Cert.KernelIdeal Cert.KernelIdeal.Gen Idealize.ShloMosaic

/-- The word of a one reads as the number one, the zero word as zero. -/
theorem ofBits_ite (p : Prop) [Decidable p] :
    (FloatOps.ofBits .f32 (if p then 0x3F800000#32 else 0x00000000#32) : Ideal .f32) = if p then 1 else 0 := by
  split
  · exact Ideal.ofBits_one_f32
  · exact Ideal.ofBits_zero_f32

/-- The first selection table, entry by entry: row `k * 2 + f` (below six) holds a one in column `f * 3 + k`. -/
theorem lit0_at : ∀ i : Fin 8, ∀ q : Fin 6, lit0 ⟨(i : ℕ) * 6 + q, (by omega : (i : ℕ) * 6 + q < 48)⟩ =
    if (i : ℕ) < 6 ∧ (q : ℕ) = (i : ℕ) % 2 * 3 + (i : ℕ) / 2 then 0x3F800000#32 else 0x00000000#32 := by decide +kernel

/-- The second selection table, entry by entry: row `k * 64 + f` holds a one in column `f * 3 + k`. -/
theorem lit1_at (i q : Fin 192) : lit1 ⟨(i : ℕ) * 192 + q, (by omega : (i : ℕ) * 192 + q < 36864)⟩ =
    if (q : ℕ) = (i : ℕ) % 64 * 3 + (i : ℕ) / 64 then 0x3F800000#32 else 0x00000000#32 := by
  have h := rows ⟨(i : ℕ) / 32, by omega⟩ ⟨(i : ℕ) % 32, by omega⟩ q
  have e : (i : ℕ) / 32 * 32 + (i : ℕ) % 32 = i := by omega
  simp only [e] at h
  exact h

/-- Row `k * 2 + f` of the first selection table picks column `f * 3 + k`. -/
theorem first_row (k : Fin 3) (f : Fin 2) (q : Fin 6) :
    (FloatOps.ofBits .f32 (lit0 (S8x6.rowMajor (ix2 ⟨k * 2 + f, by omega⟩ q))) : Ideal .f32) =
      if q = ⟨f * 3 + k, by omega⟩ then 1 else 0 := by
  have h : S8x6.rowMajor (ix2 (⟨k * 2 + f, by omega⟩ : Fin 8) q) =
      ⟨(k * 2 + f : ℕ) * 6 + q, (by omega : (k * 2 + f : ℕ) * 6 + q < 48)⟩ :=
    Fin.ext (Shape.rowMajor_val_two _)
  refine (congrArg (fun i => FloatOps.ofBits .f32 (lit0 i)) h).trans ?_
  refine (congrArg (FloatOps.ofBits .f32) (lit0_at ⟨k * 2 + f, by omega⟩ q)).trans ?_
  refine (ofBits_ite _).trans (if_congr ?_ rfl rfl)
  rw [Fin.ext_iff]
  dsimp only
  omega

/-- Row `k * 64 + f` of the second selection table picks column `f * 3 + k`. -/
theorem second_row (k : Fin 3) (f : Fin 64) (q : Fin 192) :
    (FloatOps.ofBits .f32 (lit1 (S192x192.rowMajor (ix2 ⟨k * 64 + f, by omega⟩ q))) : Ideal .f32) =
      if q = ⟨f * 3 + k, by omega⟩ then 1 else 0 := by
  have h : S192x192.rowMajor (ix2 (⟨k * 64 + f, by omega⟩ : Fin 192) q) =
      ⟨(k * 64 + f : ℕ) * 192 + q, (by omega : (k * 64 + f : ℕ) * 192 + q < 36864)⟩ :=
    Fin.ext (Shape.rowMajor_val_two _)
  refine (congrArg (fun i => FloatOps.ofBits .f32 (lit1 i)) h).trans ?_
  refine (congrArg (FloatOps.ofBits .f32) (lit1_at ⟨k * 64 + f, by omega⟩ q)).trans ?_
  refine (ofBits_ite _).trans (if_congr ?_ rfl rfl)
  rw [Fin.ext_iff]
  dsimp only
  omega

end Cert.KernelIdeal.Tables
-- ==== Proof.KernelValue.lean ====
module
public import proofs.«01_k».proof.Proof.Entry
public import proofs.«01_k».proof.Proof.Tables
public import Idealize.ShloMosaic.Lib.Pipeline.ValueKit
@[expose] public section
set_option maxRecDepth 16384
noncomputable section

namespace Cert.KernelIdeal.Final
open Cert.KernelIdeal Cert.KernelIdeal.Gen Idealize.ShloMosaic Idealize.ShloMosaic.TcCoe Idealize.SL.Sem
open Cert.Spec

variable (m : (ℓ : Loc nD τ sig) → Buf (Elt Ideal) ℓ) (c : Dev nD)

/-- The first cell's state on the launched arguments. -/
def one (b : Fin 64) (n : Fin 512) (u : Fin 64) : EReal :=
  first (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) b n u

/-- The second cell's state on the launched arguments. -/
def both (b : Fin 64) (n : Fin 512) (u : Fin 64) : EReal :=
  second (one m c) (m ((c : Thread nD τ).loc main_arg1)) (m ((c : Thread nD τ).loc main_arg7))
    (m ((c : Thread nD τ).loc main_arg8)) (m ((c : Thread nD τ).loc main_arg9)) (m ((c : Thread nD τ).loc main_arg10)) b n u

/-- At grid point `t` the body's first state, row `g * 512 + n`, is the first cell of batch member `t * 16 + g` at
    node `n`. -/
theorem first_block (t : Fin cfg0.N) (b : Fin 64) (g : Fin 16) (hb : (b : ℕ) = (t : ℕ) * 16 + g) (n : Fin 512) (r : Fin 8192)
    (hr : (r : ℕ) = (g : ℕ) * 512 + n) (u : Fin 64) :
    k0_pay15 (k0_pay30 (iblk m c 0 t) (iblk m c 1 t) (iblk m c 2 t) (iblk m c 3 t) (iblk m c 4 t) (iblk m c 5 t) (iblk m c 6 t)
      (iblk m c 7 t) (iblk m c 8 t) (iblk m c 9 t)) (ix2 r u) = one m c b n u := by
  refine Block.first_at _ _ _ _ _ _ _ _ _ _ _ _ _ _ _ _ b g (fun f j => ?_) (fun i j => ?_) (fun f k q => ?_) (fun q u => ?_)
    (fun q u => ?_) (fun u => ?_) (fun u => ?_) n r hr u
  · exact (Entry.blk0 m c t j _).trans ((congrFun (Entry.V_v2 m c) _).trans (Entry.laid_at _ _ f g j b hb))
  · exact (Entry.blk1 m c t i j).trans (congrFun (V_main_arg1 m c) _)
  · exact (Entry.blk2 m c t _ q).trans ((congrFun (Entry.V_cst m c) _).trans (Tables.first_row k f q))
  · refine (Entry.blk3 m c t q _).trans ((congrFun (Entry.V_v9 m c) _).trans ?_)
    pointwise
  · refine (Entry.blk4 m c t q u).trans ((congrFun (Entry.V_v10 m c) _).trans ?_)
    pointwise
  · exact (Entry.blk5 m c t 0 _).trans ((congrFun (Entry.V_v5 m c) _).trans (Entry.biases_left _ _ u))
  · exact (Entry.blk5 m c t 0 _).trans ((congrFun (Entry.V_v5 m c) _).trans (Entry.biases_right _ _ u))

/-- At grid point `t` the body's second state, row `g * 512 + n`, is the second cell of batch member `t * 16 + g` at
    node `n`. -/
theorem second_block (t : Fin cfg0.N) (b : Fin 64) (g : Fin 16) (hb : (b : ℕ) = (t : ℕ) * 16 + g) (n : Fin 512) (r : Fin 8192)
    (hr : (r : ℕ) = (g : ℕ) * 512 + n) (u : Fin 64) :
    k0_pay31 (iblk m c 0 t) (iblk m c 1 t) (iblk m c 2 t) (iblk m c 3 t) (iblk m c 4 t) (iblk m c 5 t) (iblk m c 6 t)
      (iblk m c 7 t) (iblk m c 8 t) (iblk m c 9 t) (ix2 r u) = both m c b n u := by
  refine Block.second_at _ _ _ _ _ _ _ _ _ _ (one m c) _ _ _ _ _ b g (fun f j => ?_) (fun i j => ?_) (fun f k q => ?_)
    (fun q u => ?_) (fun q u => ?_) (fun u => ?_) (fun u => ?_) n r hr u
  · unfold Block.sig1
    exact first_block m c t b g hb j _ (by dsimp only; omega) f
  · exact (Entry.blk1 m c t i j).trans (congrFun (V_main_arg1 m c) _)
  · exact (Entry.blk6 m c t _ q).trans ((congrFun (Entry.V_cst_0 m c) _).trans (Tables.second_row k f q))
  · refine (Entry.blk7 m c t q _).trans ((congrFun (Entry.V_v11 m c) _).trans ?_)
    pointwise
  · refine (Entry.blk8 m c t q u).trans ((congrFun (Entry.V_v12 m c) _).trans ?_)
    pointwise
  · exact (Entry.blk9 m c t 0 _).trans ((congrFun (Entry.V_v8 m c) _).trans (Entry.biases_left _ _ u))
  · exact (Entry.blk9 m c t 0 _).trans ((congrFun (Entry.V_v8 m c) _).trans (Entry.biases_right _ _ u))

/-- The output windows stand on group `t` at grid point `t`. -/
theorem idx : ∀ t : Fin cfg0.N, win0_10.index t = ![0, t.val, 0, 0] ∧ win0_11.index t = ![t.val, 0, 0] :=
  (by decide +kernel : ∀ t : Fin grid0.N, _)

/-- The new state of the last layer, by batch member, node and unit. -/
def last : FVec Ideal S64x512x64 .f32 := fun i => both m c (i 0) (i 1) (i 2)

/-- The new states of the two layers. -/
def states : FVec Ideal S2x64x512x64 .f32 := fun i =>
  if (i 0 : ℕ) = 0 then one m c (i 1) (i 2) (i 3) else both m c (i 1) (i 2) (i 3)

/-- The last state stored block by block: sixteen members of 512 nodes are the 8192 rows. -/
theorem pay3_at (s : FVec Ideal S8192x64 .f32) (g : Fin 16) (n : Fin 512) (u : Fin 64) :
    k0_pay3 s (ix3 g n u) = s (ix2 ⟨g * 512 + n, by omega⟩ u) := by
  pointwise [k0_pay3]

/-- The second layer's half of the states, stored block by block. -/
theorem pay2_at (s : FVec Ideal S8192x64 .f32) (z : Fin 1) (g : Fin 16) (n : Fin 512) (u : Fin 64) :
    k0_pay2 s (ix4 z g n u) = s (ix2 ⟨g * 512 + n, by omega⟩ u) := by
  pointwise [k0_pay2]

/-- The first layer's half of the states, stored block by block. -/
theorem pay1_at (s : FVec Ideal S8192x64 .f32) (z : Fin 1) (g : Fin 16) (n : Fin 512) (u : Fin 64) :
    k0_pay1 (k0_pay29 s) (ix4 z g n u) = s (ix2 ⟨g * 512 + n, by omega⟩ u) := by
  pointwise [k0_pay1, k0_pay29]

/-- The block of the last state that grid point `t` leaves. -/
theorem last_point (t : Fin cfg0.N) (y : S16x512x64.Idx) (j : S64x512x64.Idx)
    (hj0 : (j 0 : ℕ) = t * 16 + y 0) (hj1 : (j 1 : ℕ) = y 1) (hj2 : (j 2 : ℕ) = y 2) :
    k0_pay3 (k0_pay31 (iblk m c 0 t) (iblk m c 1 t) (iblk m c 2 t) (iblk m c 3 t) (iblk m c 4 t) (iblk m c 5 t) (iblk m c 6 t)
      (iblk m c 7 t) (iblk m c 8 t) (iblk m c 9 t)) y = last m c j := by
  idx_vars y
  have h1 : j 1 = y1 := Fin.ext hj1
  have h2 : j 2 = y2 := Fin.ext hj2
  refine (pay3_at _ y0 y1 y2).trans ((second_block m c t (j 0) y0 hj0 y1 _ rfl y2).trans ?_)
  unfold last
  rw [h1, h2]

/-- What the second result's buffer holds after the region. -/
theorem last_final : (dats m 0 c).arrAt 11 (cfgs 0).N = last m c := by
  refine (dats m 0 c).arrAt_eq_of_covers 11 _ (by decide +kernel) fun t hf y => ?_
  blk_simp
  rw [after0_11]
  frame_out
  refine last_point m c t y _ ?_ ?_ ?_
  all_goals (blk_simp [idx t] <;> try omega)

/-- The block of states that grid point `t` leaves. -/
theorem states_point (t : Fin cfg0.N) (y : S2x16x512x64.Idx) (j : S2x64x512x64.Idx)
    (hj0 : (j 0 : ℕ) = y 0) (hj1 : (j 1 : ℕ) = t * 16 + y 1) (hj2 : (j 2 : ℕ) = y 2) (hj3 : (j 3 : ℕ) = y 3) :
    out0_10 (iblk m c 0 t) (iblk m c 1 t) (iblk m c 2 t) (iblk m c 3 t) (iblk m c 4 t) (iblk m c 5 t) (iblk m c 6 t)
      (iblk m c 7 t) (iblk m c 8 t) (iblk m c 9 t) y = states m c j := by
  unfold out0_10
  canon_tiles x h
  · idx_vars x
    have e1 : (j 1 : ℕ) = t * 16 + x1 := hj1.trans (congrArg _ h1)
    have e2 : j 2 = x2 := Fin.ext (hj2.trans h2)
    have e3 : j 3 = x3 := Fin.ext (hj3.trans h3)
    refine (pay2_at _ x0 x1 x2 x3).trans ((second_block m c t (j 1) x1 e1 x2 _ rfl x3).trans ?_)
    unfold states
    rw [e2, e3, if_neg (by omega)]
  · idx_vars x
    have e1 : (j 1 : ℕ) = t * 16 + x1 := hj1.trans (congrArg _ h1)
    have e2 : j 2 = x2 := Fin.ext (hj2.trans h2)
    have e3 : j 3 = x3 := Fin.ext (hj3.trans h3)
    refine (pay1_at _ x0 x1 x2 x3).trans ((first_block m c t (j 1) x1 e1 x2 _ rfl x3).trans ?_)
    unfold states
    rw [e2, e3, if_pos (by omega)]

/-- What the buffer of the states holds after the region. -/
theorem states_final : (dats m 0 c).arrAt 10 (cfgs 0).N = states m c := by
  refine (dats m 0 c).arrAt_eq_of_covers 10 _ (by decide +kernel) fun t hf y => ?_
  blk_simp
  rw [after0_10]
  refine states_point m c t y _ ?_ ?_ ?_ ?_
  all_goals (blk_simp [idx t] <;> try omega)

/-- No two windows stand on the same array. -/
theorem arr_inj : Function.Injective (Pipeline.arrRef (cfgs 0).spec) := by decide

/-- The tail reshapes the last state. -/
theorem tail_last : Pipeline.afterTail₀ cfgs (dats m) 0 (V0 m) [hostOps1] c main_v14 =
    shapeCast S64x32768 (last m c) shapeCasts_S64x512x64_S64x32768 := by
  unfold Pipeline.afterTail₀
  have h := (Pipeline.withArrays_arr (cfgs 0).spec arr_inj c (V0 m c) (fun w => (dats m 0 c).arrAt w (cfgs 0).N) 11).trans
    (last_final m c)
  change StableHlo.after hostOps1 _ _ = _
  generalize Pipeline.withArrays _ _ _ _ = W at h ⊢
  after_results
  exact congrArg (fun x => shapeCast S64x32768 x shapeCasts_S64x512x64_S64x32768) h

/-- The tail reshapes the two states. -/
theorem tail_states : Pipeline.afterTail₀ cfgs (dats m) 0 (V0 m) [hostOps1] c main_v15 =
    shapeCast S2x64x32768 (states m c) shapeCasts_S2x64x512x64_S2x64x32768 := by
  unfold Pipeline.afterTail₀
  have h := (Pipeline.withArrays_arr (cfgs 0).spec arr_inj c (V0 m c) (fun w => (dats m 0 c).arrAt w (cfgs 0).N) 10).trans
    (states_final m c)
  change StableHlo.after hostOps1 _ _ = _
  generalize Pipeline.withArrays _ _ _ _ = W at h ⊢
  after_results
  exact congrArg (fun x => shapeCast S2x64x32768 x shapeCasts_S2x64x512x64_S2x64x32768) h

/-- The two results of the kernel's program: the last state and the two states, each with nodes and units side by
    side. -/
theorem run (m : (ℓ : Loc nD τ sig) → Buf (Elt Ideal) ℓ) (ρ) :
    θ_run defs (onTc main) (s₀ m ρ) fun r => ∀ c : Dev nD,
      r.2.mem ((c : Thread nD τ).loc main_v14) = shapeCast S64x32768 (last m c) shapeCasts_S64x512x64_S64x32768 ∧
      r.2.mem ((c : Thread nD τ).loc main_v15) = shapeCast S2x64x32768 (states m c) shapeCasts_S2x64x512x64_S2x64x32768 := by
  run_from run_main m ρ
  · exact tail_last m c
  · exact tail_states m c

end Cert.KernelIdeal.Final
-- ==== Proof.RefFirst.lean ====
module
public import proofs.«01_k».proof.Proof.Spec
public import proofs.«01_k».proof.Proof.Gen.ReferenceIdeal.Run
@[expose] public section
set_option maxRecDepth 16384
noncomputable section

namespace Cert.ReferenceIdeal.One
open Cert.ReferenceIdeal Cert.ReferenceIdeal.Gen Idealize.ShloMosaic Idealize.ShloMosaic.TcCoe Idealize.SL.Sem Idealize.ShloMosaic.StableHlo
open Cert.Spec

/-- The first layer's features, nodes down, feature and batch member across: the two input features, then the 64
    features of a state. -/
def feats (x : FVec Ideal S64x1024 .f32) (s : FVec Ideal S64x32768 .f32) : FVec Ideal S512x4224 .f32 :=
  shapeCast S512x4224 (transpose S512x66x64 [1, 2, 0]
    (concatenate S64x512x66 2 [⟨S64x512x2, shapeCast S64x512x2 x shapeCasts_S64x1024_S64x512x2⟩,
      ⟨S64x512x64, shapeCast S64x512x64 s shapeCasts_S64x32768_S64x512x64⟩] concatenates_S64x512x2_S64x512x64_S64x512x66_d2)
    transposes_S64x512x66_S512x66x64_1_2_0) shapeCasts_S512x66x64_S512x4224

/-- One application of the adjacency matrix to the features. -/
def hop (A : FVec Ideal S512x512 .f32) (y : FVec Ideal S512x4224 .f32) : FVec Ideal S512x4224 .f32 :=
  Host.dotGeneral dot_S512x512_S512x4224_S512x4224_1_0_0_1_n_n none A y

/-- The three diffusion steps of the features `y` (with `z` the first), one on top of the other. -/
def pile (A : FVec Ideal S512x512 .f32) (y z : FVec Ideal S512x4224 .f32) : FVec Ideal S3x512x4224 .f32 :=
  concatenate S3x512x4224 0
      [⟨S1x512x4224, broadcastInDim S1x512x4224 ![1, 2] bcast_S512x4224_S1x512x4224_1_2 y⟩,
       ⟨S1x512x4224, broadcastInDim S1x512x4224 ![1, 2] bcast_S512x4224_S1x512x4224_1_2 z⟩,
       ⟨S1x512x4224, broadcastInDim S1x512x4224 ![1, 2] bcast_S512x4224_S1x512x4224_1_2
          (subf (mulf (broadcastInDim S512x4224 ![] bcast_S_S512x4224 (constant S_ .f32 0x40000000#32)) (hop A z)) y)⟩]
      concatenates_S1x512x4224_S1x512x4224_S1x512x4224_S3x512x4224_d0

/-- The pile re-read with rows by batch member and node and columns by feature and step. -/
def spread (P : FVec Ideal S3x512x4224 .f32) : FVec Ideal S32768x198 .f32 :=
  shapeCast S32768x198 (transpose S64x512x66x3 [3, 1, 2, 0] (shapeCast S3x512x66x64 P shapeCasts_S3x512x4224_S3x512x66x64)
    transposes_S3x512x66x64_S64x512x66x3_3_1_2_0) shapeCasts_S64x512x66x3_S32768x198

/-- The gates of a stack: the logistic function of its product with the weights plus the bias. -/
def gates (T : FVec Ideal S32768x198 .f32) (W : FVec Ideal S198x128 .f32) (p : FVec Ideal S128 .f32) : FVec Ideal S64x512x128 .f32 :=
  shapeCast S64x512x128 (Host.divf (broadcastInDim S64x65536 ![] bcast_S_S64x65536 (constant S_ .f32 0x3F800000#32))
    (addf (broadcastInDim S64x65536 ![] bcast_S_S64x65536 (constant S_ .f32 0x3F800000#32))
      (Host.exp (Host.negf (shapeCast S64x65536 (addf
        (Host.dotGeneral dot_S32768x198_S198x128_S32768x128_1_0_0_1_n_n none T W)
        (broadcastInDim S32768x128 ![0, 1] bcast_S1x128_S32768x128_0_1 (broadcastInDim S1x128 ![1] bcast_S128_S1x128_1 p)))
        shapeCasts_S32768x128_S64x65536))))) shapeCasts_S64x65536_S64x512x128

/-- The candidate of a stack: the hyperbolic tangent of its product with the weights plus the bias. -/
def cand (T : FVec Ideal S32768x198 .f32) (W : FVec Ideal S198x64 .f32) (p : FVec Ideal S64 .f32) : FVec Ideal S64x32768 .f32 :=
  Host.tanh (shapeCast S64x32768 (addf
    (Host.dotGeneral dot_S32768x198_S198x64_S32768x64_1_0_0_1_n_n none T W)
    (broadcastInDim S32768x64 ![0, 1] bcast_S1x64_S32768x64_0_1 (broadcastInDim S1x64 ![1] bcast_S64_S1x64_1 p)))
    shapeCasts_S32768x64_S64x32768)

/-- The new state: the update gate's mix of the old state and the candidate. -/
def mix (g : FVec Ideal S64x512x128 .f32) (s c : FVec Ideal S64x32768 .f32) : FVec Ideal S64x32768 .f32 :=
  addf (mulf (shapeCast S64x32768 (extractStridedSlice S64x512x64 ![0, 0, 64] g slices_S64x512x128_S64x512x64_0_0_64) shapeCasts_S64x512x64_S64x32768) s)
    (mulf (subf (broadcastInDim S64x32768 ![] bcast_S_S64x32768 (constant S_ .f32 0x3F800000#32))
      (shapeCast S64x32768 (extractStridedSlice S64x512x64 ![0, 0, 64] g slices_S64x512x128_S64x512x64_0_0_64) shapeCasts_S64x512x64_S64x32768)) c)

/-- The reset gate times a state. -/
def reset (g : FVec Ideal S64x512x128 .f32) (s : FVec Ideal S64x32768 .f32) : FVec Ideal S64x32768 .f32 :=
  mulf (shapeCast S64x32768 (extractStridedSlice S64x512x64 ![0, 0, 0] g slices_S64x512x128_S64x512x64_0_0_0) shapeCasts_S64x512x64_S64x32768) s

/-- The first two features are the inputs'. -/
theorem feats_in (x : FVec Ideal S64x1024 .f32) (s : FVec Ideal S64x32768 .f32) (b : Fin 64) (n : Fin 512) (f : Fin 2) :
    feats x s (ix2 n ⟨f * 64 + b, by omega⟩) = input x b f n := by
  have e : ((f : ℕ) * 64 + (b : ℕ)) / 64 = f := by omega
  pointwise [feats, input]
  simp only [e]
  exact dif_pos f.isLt

/-- On a zero state all other features are zero. -/
theorem feats_zero (x : FVec Ideal S64x1024 .f32) (s : FVec Ideal S64x32768 .f32) (hs : ∀ i, s i = 0) (b : Fin 64) (n : Fin 512)
    (f : Fin 66) (hf : 2 ≤ (f : ℕ)) : feats x s (ix2 n ⟨f * 64 + b, by omega⟩) = 0 := by
  pointwise [feats]
  rw [dif_neg (by omega)]
  exact hs _

/-- One application of the adjacency matrix is one step of the mathematics. -/
theorem hop_at (A : FVec Ideal S512x512 .f32) (y : FVec Ideal S512x4224 .f32) (n : Fin 512) (q : Fin 4224) :
    hop A y (ix2 n q) = step (mat A) (fun j => y (ix2 j q)) n := by
  pointwise [hop, step, mat]

/-- Layer `k` of the pile is diffusion step `k`. -/
theorem pile_at (A : FVec Ideal S512x512 .f32) (y : FVec Ideal S512x4224 .f32) (k : Fin 3) (n : Fin 512) (q : Fin 4224) :
    pile A y (hop A y) (ix3 k n q) = cheb (mat A) (fun j => y (ix2 j q)) k n := by
  pointwise [pile]
  unfold cheb
  simp only [hop_at]
  fin_vals k with hk <;> simp only [hk] <;> rfl

/-- Row `b * 512 + n`, column `f * 3 + k` of the pile re-read is its layer `k` at node `n`, feature `f` and batch member
    `b`. -/
theorem spread_at (P : FVec Ideal S3x512x4224 .f32) (b : Fin 64) (n : Fin 512) (f : Fin 66) (k : Fin 3)
    (r : Fin 32768) (hr : (r : ℕ) = b * 512 + n) :
    spread P (ix2 r ⟨f * 3 + k, by omega⟩) = P (ix3 k n ⟨f * 64 + b, by omega⟩) := by
  obtain ⟨r, hr'⟩ := r
  obtain rfl : r = b * 512 + n := hr
  pointwise [spread]

/-- The gates at a batch member, a node and a column. -/
theorem gates_at (T : FVec Ideal S32768x198 .f32) (W : FVec Ideal S198x128 .f32) (p : FVec Ideal S128 .f32) (b : Fin 64)
    (n : Fin 512) (q : Fin 128) :
    gates T W p (ix3 b n q) = Ideal.logistic ((∑ k : Fin 198, T (ix2 ⟨b * 512 + n, by omega⟩ k) * W (ix2 k q)) + p (ix1 q)) := by
  have e : ((n : ℕ) * 128 + (q : ℕ)) / 128 = n := by omega
  pointwise [gates]
  simp only [e]
  rfl

/-- The candidate at a batch member, a node and a unit. -/
theorem cand_at (T : FVec Ideal S32768x198 .f32) (W : FVec Ideal S198x64 .f32) (p : FVec Ideal S64 .f32) (b : Fin 64)
    (n : Fin 512) (u : Fin 64) :
    cand T W p (ix2 b ⟨n * 64 + u, by omega⟩) = Ideal.tanh ((∑ k : Fin 198, T (ix2 ⟨b * 512 + n, by omega⟩ k) * W (ix2 k u)) + p (ix1 u)) := by
  have e : ((n : ℕ) * 64 + (u : ℕ)) / 64 = n := by omega
  pointwise [cand]
  simp only [e]

/-- On a zero state the new state is one minus the update gate times the candidate. -/
theorem mix_at (g : FVec Ideal S64x512x128 .f32) (s c : FVec Ideal S64x32768 .f32) (hs : ∀ i, s i = 0) (b : Fin 64)
    (n : Fin 512) (u : Fin 64) :
    mix g s c (ix2 b ⟨n * 64 + u, by omega⟩) = (1 - g (ix3 b n ⟨64 + u, by omega⟩)) * c (ix2 b ⟨n * 64 + u, by omega⟩) := by
  pointwise [mix]
  rw [hs, mul_zero, zero_add]

/-- The diffusion steps of a table of features, ready for the weights. -/
def steps (A : FVec Ideal S512x512 .f32) (y : FVec Ideal S512x4224 .f32) : FVec Ideal S32768x198 .f32 :=
  spread (pile A y (hop A y))

/-- On a zero state, the product of the stacked diffusion steps with the weights is the graph convolution of the two
    input features alone. -/
theorem steps_at (x : FVec Ideal S64x1024 .f32) (s : FVec Ideal S64x32768 .f32) (hs : ∀ i, s i = 0) (A : FVec Ideal S512x512 .f32)
    {C : ℕ} (W : (⟨2, ![198, C]⟩ : Shape).Idx → EReal) (b : Fin 64) (n : Fin 512) (q : Fin C) :
    (∑ k : Fin 198, (show EReal from steps A (feats x s) (ix2 ⟨b * 512 + n, by omega⟩ k)) * W (ix2 k q)) =
      conv (mat A) (input x b) (row (D := 2) (by omega) W q) n := by
  refine (conv_rows (D := 66) (by omega) (mat A) (fun f j => feats x s (ix2 j ⟨f * 64 + b, by omega⟩)) (row (by omega) W q) n _
    (fun f k h => ?_)).trans ?_
  · exact congrArg (fun z => z * W (ix2 ⟨f * 3 + k, h⟩ q)) ((spread_at _ b n f k _ rfl).trans (pile_at _ _ _ _ _))
  · refine (conv_take (D := 2) (by omega) (mat A) _ _ n (fun f hf j => feats_zero x s hs b j f hf)).trans ?_
    exact conv_congr (fun _ _ => rfl) (fun f j => feats_in x s b j f) (fun _ _ => rfl) n

/-- The first layer's new state. -/
def state (x : FVec Ideal S64x1024 .f32) (A : FVec Ideal S512x512 .f32) (s : FVec Ideal S64x32768 .f32) (Wg : FVec Ideal S198x128 .f32)
    (bg : FVec Ideal S128 .f32) (Wc : FVec Ideal S198x64 .f32) (bc : FVec Ideal S64 .f32) : FVec Ideal S64x32768 .f32 :=
  mix (gates (steps A (feats x s)) Wg bg) s (cand (steps A (feats x (reset (gates (steps A (feats x s)) Wg bg) s))) Wc bc)

/-- On a zero state the first layer's new state is the mathematics' first cell. -/
theorem state_at (x : FVec Ideal S64x1024 .f32) (A : FVec Ideal S512x512 .f32) (s : FVec Ideal S64x32768 .f32) (hs : ∀ i, s i = 0)
    (Wg : FVec Ideal S198x128 .f32) (bg : FVec Ideal S128 .f32) (Wc : FVec Ideal S198x64 .f32) (bc : FVec Ideal S64 .f32)
    (b : Fin 64) (n : Fin 512) (u : Fin 64) :
    state x A s Wg bg Wc bc (ix2 b ⟨n * 64 + u, by omega⟩) = first x A Wg bg Wc bc b n u := by
  unfold state
  rw [mix_at _ _ _ hs, gates_at, cand_at]
  have hr : ∀ g i, reset g s i = 0 := fun g i => by
    show (_ : EReal) * s i = 0
    rw [hs, mul_zero]
  exact congrArg₂ (fun a c => (1 - Ideal.logistic (a + bg (ix1 ⟨64 + u, by omega⟩))) * Ideal.tanh (c + bc (ix1 u)))
    (steps_at x s hs A Wg b n _) (steps_at x _ (hr _) A Wc b n u)

/-- The reference's first new state, read off its run. -/
theorem v63_eq (V0 : Valuation τ sig (Elt Ideal)) : Value.res_main_v63 V0 =
    state (V0 (Proc.devRef .tc main_arg0)) (V0 (Proc.devRef .tc main_arg1)) (Value.res_main_v1 V0) (V0 (Proc.devRef .tc main_arg3))
      (V0 (Proc.devRef .tc main_arg4)) (V0 (Proc.devRef .tc main_arg5)) (V0 (Proc.devRef .tc main_arg6)) := rfl

end Cert.ReferenceIdeal.One
-- ==== Proof.RefSecond.lean ====
module
public import proofs.«01_k».proof.Proof.RefFirst
@[expose] public section
set_option maxRecDepth 16384
noncomputable section

namespace Cert.ReferenceIdeal.Two
open Cert.ReferenceIdeal Cert.ReferenceIdeal.Gen Idealize.ShloMosaic Idealize.ShloMosaic.TcCoe Idealize.SL.Sem Idealize.ShloMosaic.StableHlo
open Cert.Spec
open Cert.ReferenceIdeal.One (mix reset mix_at)

/-- The second layer's features, nodes down, feature and batch member across: the 64 features of the first layer's new
    state `t`, then the 64 features of the layer's own state `s`. -/
def feats (t s : FVec Ideal S64x32768 .f32) : FVec Ideal S512x8192 .f32 :=
  shapeCast S512x8192 (transpose S512x128x64 [1, 2, 0]
    (concatenate S64x512x128 2 [⟨S64x512x64, shapeCast S64x512x64 t shapeCasts_S64x32768_S64x512x64⟩,
      ⟨S64x512x64, shapeCast S64x512x64 s shapeCasts_S64x32768_S64x512x64⟩] concatenates_S64x512x64_S64x512x64_S64x512x128_d2)
    transposes_S64x512x128_S512x128x64_1_2_0) shapeCasts_S512x128x64_S512x8192

/-- One application of the adjacency matrix to the features. -/
def hop (A : FVec Ideal S512x512 .f32) (y : FVec Ideal S512x8192 .f32) : FVec Ideal S512x8192 .f32 :=
  Host.dotGeneral dot_S512x512_S512x8192_S512x8192_1_0_0_1_n_n none A y

/-- The three diffusion steps of the features `y` (with `z` the first), one on top of the other. -/
def pile (A : FVec Ideal S512x512 .f32) (y z : FVec Ideal S512x8192 .f32) : FVec Ideal S3x512x8192 .f32 :=
  concatenate S3x512x8192 0
      [⟨S1x512x8192, broadcastInDim S1x512x8192 ![1, 2] bcast_S512x8192_S1x512x8192_1_2 y⟩,
       ⟨S1x512x8192, broadcastInDim S1x512x8192 ![1, 2] bcast_S512x8192_S1x512x8192_1_2 z⟩,
       ⟨S1x512x8192, broadcastInDim S1x512x8192 ![1, 2] bcast_S512x8192_S1x512x8192_1_2
          (subf (mulf (broadcastInDim S512x8192 ![] bcast_S_S512x8192 (constant S_ .f32 0x40000000#32)) (hop A z)) y)⟩]
      concatenates_S1x512x8192_S1x512x8192_S1x512x8192_S3x512x8192_d0

/-- The pile re-read with rows by batch member and node and columns by feature and step. -/
def spread (P : FVec Ideal S3x512x8192 .f32) : FVec Ideal S32768x384 .f32 :=
  shapeCast S32768x384 (transpose S64x512x128x3 [3, 1, 2, 0] (shapeCast S3x512x128x64 P shapeCasts_S3x512x8192_S3x512x128x64)
    transposes_S3x512x128x64_S64x512x128x3_3_1_2_0) shapeCasts_S64x512x128x3_S32768x384

/-- The gates of a stack: the logistic function of its product with the weights plus the bias. -/
def gates (T : FVec Ideal S32768x384 .f32) (W : FVec Ideal S384x128 .f32) (p : FVec Ideal S128 .f32) : FVec Ideal S64x512x128 .f32 :=
  shapeCast S64x512x128 (Host.divf (broadcastInDim S64x65536 ![] bcast_S_S64x65536 (constant S_ .f32 0x3F800000#32))
    (addf (broadcastInDim S64x65536 ![] bcast_S_S64x65536 (constant S_ .f32 0x3F800000#32))
      (Host.exp (Host.negf (shapeCast S64x65536 (addf
        (Host.dotGeneral dot_S32768x384_S384x128_S32768x128_1_0_0_1_n_n none T W)
        (broadcastInDim S32768x128 ![0, 1] bcast_S1x128_S32768x128_0_1 (broadcastInDim S1x128 ![1] bcast_S128_S1x128_1 p)))
        shapeCasts_S32768x128_S64x65536))))) shapeCasts_S64x65536_S64x512x128

/-- The candidate of a stack: the hyperbolic tangent of its product with the weights plus the bias. -/
def cand (T : FVec Ideal S32768x384 .f32) (W : FVec Ideal S384x64 .f32) (p : FVec Ideal S64 .f32) : FVec Ideal S64x32768 .f32 :=
  Host.tanh (shapeCast S64x32768 (addf
    (Host.dotGeneral dot_S32768x384_S384x64_S32768x64_1_0_0_1_n_n none T W)
    (broadcastInDim S32768x64 ![0, 1] bcast_S1x64_S32768x64_0_1 (broadcastInDim S1x64 ![1] bcast_S64_S1x64_1 p)))
    shapeCasts_S32768x64_S64x32768)

/-- The first 64 features are those of the first layer's new state. -/
theorem feats_in (t s : FVec Ideal S64x32768 .f32) (b : Fin 64) (n : Fin 512) (f : Fin 64) :
    feats t s (ix2 n ⟨f * 64 + b, by omega⟩) = t (ix2 b ⟨n * 64 + f, by omega⟩) := by
  have e : ((f : ℕ) * 64 + (b : ℕ)) / 64 = f := by omega
  pointwise [feats]
  simp only [e]
  exact dif_pos f.isLt

/-- On a zero state all other features are zero. -/
theorem feats_zero (t s : FVec Ideal S64x32768 .f32) (hs : ∀ i, s i = 0) (b : Fin 64) (n : Fin 512)
    (f : Fin 128) (hf : 64 ≤ (f : ℕ)) : feats t s (ix2 n ⟨f * 64 + b, by omega⟩) = 0 := by
  pointwise [feats]
  rw [dif_neg (by omega)]
  exact hs _

/-- One application of the adjacency matrix is one step of the mathematics. -/
theorem hop_at (A : FVec Ideal S512x512 .f32) (y : FVec Ideal S512x8192 .f32) (n : Fin 512) (q : Fin 8192) :
    hop A y (ix2 n q) = step (mat A) (fun j => y (ix2 j q)) n := by
  pointwise [hop, step, mat]

/-- Layer `k` of the pile is diffusion step `k`. -/
theorem pile_at (A : FVec Ideal S512x512 .f32) (y : FVec Ideal S512x8192 .f32) (k : Fin 3) (n : Fin 512) (q : Fin 8192) :
    pile A y (hop A y) (ix3 k n q) = cheb (mat A) (fun j => y (ix2 j q)) k n := by
  pointwise [pile]
  unfold cheb
  simp only [hop_at]
  fin_vals k with hk <;> simp only [hk] <;> rfl

/-- Row `b * 512 + n`, column `f * 3 + k` of the pile re-read is its layer `k` at node `n`, feature `f` and batch member
    `b`. -/
theorem spread_at (P : FVec Ideal S3x512x8192 .f32) (b : Fin 64) (n : Fin 512) (f : Fin 128) (k : Fin 3)
    (r : Fin 32768) (hr : (r : ℕ) = b * 512 + n) :
    spread P (ix2 r ⟨f * 3 + k, by omega⟩) = P (ix3 k n ⟨f * 64 + b, by omega⟩) := by
  obtain ⟨r, hr'⟩ := r
  obtain rfl : r = b * 512 + n := hr
  pointwise [spread]

/-- The gates at a batch member, a node and a column. -/
theorem gates_at (T : FVec Ideal S32768x384 .f32) (W : FVec Ideal S384x128 .f32) (p : FVec Ideal S128 .f32) (b : Fin 64)
    (n : Fin 512) (q : Fin 128) :
    gates T W p (ix3 b n q) = Ideal.logistic ((∑ k : Fin 384, T (ix2 ⟨b * 512 + n, by omega⟩ k) * W (ix2 k q)) + p (ix1 q)) := by
  have e : ((n : ℕ) * 128 + (q : ℕ)) / 128 = n := by omega
  pointwise [gates]
  simp only [e]
  rfl

/-- The candidate at a batch member, a node and a unit. -/
theorem cand_at (T : FVec Ideal S32768x384 .f32) (W : FVec Ideal S384x64 .f32) (p : FVec Ideal S64 .f32) (b : Fin 64)
    (n : Fin 512) (u : Fin 64) :
    cand T W p (ix2 b ⟨n * 64 + u, by omega⟩) = Ideal.tanh ((∑ k : Fin 384, T (ix2 ⟨b * 512 + n, by omega⟩ k) * W (ix2 k u)) + p (ix1 u)) := by
  have e : ((n : ℕ) * 64 + (u : ℕ)) / 64 = n := by omega
  pointwise [cand]
  simp only [e]

/-- The diffusion steps of a table of features, ready for the weights. -/
def steps (A : FVec Ideal S512x512 .f32) (y : FVec Ideal S512x8192 .f32) : FVec Ideal S32768x384 .f32 :=
  spread (pile A y (hop A y))

/-- On a zero state, the product of the stacked diffusion steps with the weights is the graph convolution of the first
    layer's new state `h` alone. -/
theorem steps_at (t s : FVec Ideal S64x32768 .f32) (h : Fin 64 → Fin 512 → Fin 64 → EReal)
    (ht : ∀ (b : Fin 64) (n : Fin 512) (u : Fin 64), t (ix2 b ⟨n * 64 + u, by omega⟩) = h b n u) (hs : ∀ i, s i = 0) (A : FVec Ideal S512x512 .f32)
    {C : ℕ} (W : (⟨2, ![384, C]⟩ : Shape).Idx → EReal) (b : Fin 64) (n : Fin 512) (q : Fin C) :
    (∑ k : Fin 384, (show EReal from steps A (feats t s) (ix2 ⟨b * 512 + n, by omega⟩ k)) * W (ix2 k q)) =
      conv (mat A) (fun f j => h b j f) (row (D := 64) (by omega) W q) n := by
  refine (conv_rows (D := 128) (by omega) (mat A) (fun f j => feats t s (ix2 j ⟨f * 64 + b, by omega⟩)) (row (by omega) W q) n _
    (fun f k h => ?_)).trans ?_
  · exact congrArg (fun z => z * W (ix2 ⟨f * 3 + k, h⟩ q)) ((spread_at _ b n f k _ rfl).trans (pile_at _ _ _ _ _))
  · refine (conv_take (D := 64) (by omega) (mat A) _ _ n (fun f hf j => feats_zero t s hs b j f hf)).trans ?_
    exact conv_congr (fun _ _ => rfl) (fun f j => (feats_in t s b j f).trans (ht b j f)) (fun _ _ => rfl) n

/-- The second layer's new state. -/
def state (t : FVec Ideal S64x32768 .f32) (A : FVec Ideal S512x512 .f32) (s : FVec Ideal S64x32768 .f32) (Wg : FVec Ideal S384x128 .f32)
    (bg : FVec Ideal S128 .f32) (Wc : FVec Ideal S384x64 .f32) (bc : FVec Ideal S64 .f32) : FVec Ideal S64x32768 .f32 :=
  mix (gates (steps A (feats t s)) Wg bg) s (cand (steps A (feats t (reset (gates (steps A (feats t s)) Wg bg) s))) Wc bc)

/-- On a zero state the second layer's new state is the mathematics' second cell. -/
theorem state_at (t : FVec Ideal S64x32768 .f32) (h : Fin 64 → Fin 512 → Fin 64 → EReal)
    (ht : ∀ (b : Fin 64) (n : Fin 512) (u : Fin 64), t (ix2 b ⟨n * 64 + u, by omega⟩) = h b n u) (A : FVec Ideal S512x512 .f32) (s : FVec Ideal S64x32768 .f32)
    (hs : ∀ i, s i = 0) (Wg : FVec Ideal S384x128 .f32) (bg : FVec Ideal S128 .f32) (Wc : FVec Ideal S384x64 .f32)
    (bc : FVec Ideal S64 .f32) (b : Fin 64) (n : Fin 512) (u : Fin 64) :
    state t A s Wg bg Wc bc (ix2 b ⟨n * 64 + u, by omega⟩) = second h A Wg bg Wc bc b n u := by
  unfold state
  rw [mix_at _ _ _ hs, gates_at, cand_at]
  have hr : ∀ g i, reset g s i = 0 := fun g i => by
    show (_ : EReal) * s i = 0
    rw [hs, mul_zero]
  exact congrArg₂ (fun a c => (1 - Ideal.logistic (a + bg (ix1 ⟨64 + u, by omega⟩))) * Ideal.tanh (c + bc (ix1 u)))
    (steps_at t s h ht hs A Wg b n _) (steps_at t _ h ht (hr _) A Wc b n u)

/-- The two new states side by side. -/
def pair (p q : FVec Ideal S64x32768 .f32) : FVec Ideal S2x64x32768 .f32 :=
  concatenate S2x64x32768 0
    [⟨S1x64x32768, broadcastInDim S1x64x32768 ![1, 2] bcast_S64x32768_S1x64x32768_1_2 p⟩,
     ⟨S1x64x32768, broadcastInDim S1x64x32768 ![1, 2] bcast_S64x32768_S1x64x32768_1_2 q⟩] concatenates_S1x64x32768_S1x64x32768_S2x64x32768_d0

/-- The pair at a layer, a batch member and a position. -/
theorem pair_at (p q : FVec Ideal S64x32768 .f32) (l : Fin 2) (b : Fin 64) (k : Fin 32768) :
    pair p q (ix3 l b k) = if (l : ℕ) = 0 then p (ix2 b k) else q (ix2 b k) := by
  pointwise [pair]
  fin_vals l with hl <;> simp only [hl] <;> rfl

end Cert.ReferenceIdeal.Two
-- ==== Proof.RefRun.lean ====
module
public import proofs.«01_k».proof.Proof.RefSecond
@[expose] public section
set_option maxRecDepth 16384
noncomputable section

namespace Cert.ReferenceIdeal.Final
open Cert.ReferenceIdeal Cert.ReferenceIdeal.Gen Idealize.ShloMosaic Idealize.ShloMosaic.TcCoe Idealize.SL.Sem Idealize.ShloMosaic.StableHlo
open Cert.Spec

/-- The reference's first new state on the launched arguments. -/
def out1 (V0 : Valuation τ sig (Elt Ideal)) : FVec Ideal S64x32768 .f32 :=
    One.state (V0 (Proc.devRef .tc main_arg0)) (V0 (Proc.devRef .tc main_arg1)) (Value.res_main_v1 V0) (V0 (Proc.devRef .tc main_arg3))
      (V0 (Proc.devRef .tc main_arg4)) (V0 (Proc.devRef .tc main_arg5)) (V0 (Proc.devRef .tc main_arg6))

/-- The reference's second new state on the launched arguments. -/
def out2 (V0 : Valuation τ sig (Elt Ideal)) : FVec Ideal S64x32768 .f32 :=
 Two.state (out1 V0) (V0 (Proc.devRef .tc main_arg1)) (Value.res_main_v65 V0) (V0 (Proc.devRef .tc main_arg7))
      (V0 (Proc.devRef .tc main_arg8)) (V0 (Proc.devRef .tc main_arg9)) (V0 (Proc.devRef .tc main_arg10))

/-- The reference's run: its results are the second new state and the pair of the two, its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v127) = out2 (launchContents m c) ∧
      r.2.mem ((c.tc : Thread nD τ).loc main_v130) = Two.pair (out1 (launchContents m c)) (out2 (launchContents m c)) := by
  refine (θ_run defs _ _).mono (fun r h c => ⟨(h c).1.trans ?_, (h c).2.1.trans ?_⟩) (Value.run m ρ)
  · rfl
  · rfl

/-- With a hidden state of zeros, the reference's first new state is the first cell. -/
theorem out1_at (V0 : Valuation τ sig (Elt Ideal)) (hz : ∀ i, @Eq EReal (V0 (Proc.devRef .tc main_arg2) i) 0)
    (b : Fin 64) (n : Fin 512) (u : Fin 64) :
    out1 V0 (ix2 b ⟨n * 64 + u, by omega⟩) = first (V0 (Proc.devRef .tc main_arg0)) (V0 (Proc.devRef .tc main_arg1))
      (V0 (Proc.devRef .tc main_arg3)) (V0 (Proc.devRef .tc main_arg4)) (V0 (Proc.devRef .tc main_arg5))
      (V0 (Proc.devRef .tc main_arg6)) b n u :=
  One.state_at _ _ _ (fun i => by unfold Value.res_main_v1; exact hz _) _ _ _ _ b n u

/-- With a hidden state of zeros, the reference's second new state is the second cell on the first. -/
theorem out2_at (V0 : Valuation τ sig (Elt Ideal)) (hz : ∀ i, @Eq EReal (V0 (Proc.devRef .tc main_arg2) i) 0)
    (b : Fin 64) (n : Fin 512) (u : Fin 64) :
    out2 V0 (ix2 b ⟨n * 64 + u, by omega⟩) = second (first (V0 (Proc.devRef .tc main_arg0)) (V0 (Proc.devRef .tc main_arg1))
      (V0 (Proc.devRef .tc main_arg3)) (V0 (Proc.devRef .tc main_arg4)) (V0 (Proc.devRef .tc main_arg5))
      (V0 (Proc.devRef .tc main_arg6))) (V0 (Proc.devRef .tc main_arg1)) (V0 (Proc.devRef .tc main_arg7))
      (V0 (Proc.devRef .tc main_arg8)) (V0 (Proc.devRef .tc main_arg9)) (V0 (Proc.devRef .tc main_arg10)) b n u :=
  Two.state_at _ _ (out1_at V0 hz) _ _ (fun i => by unfold Value.res_main_v65; exact hz _) _ _ _ _ b n u

end Cert.ReferenceIdeal.Final
-- ==== Proof.Link.lean ====
module
public import proofs.«01_k».proof.Proof.KernelValue
public import proofs.«01_k».proof.Proof.RefRun
@[expose] public section
set_option maxRecDepth 16384
noncomputable section

namespace Cert.Link
open Idealize.ShloMosaic Idealize.ShloMosaic.TcCoe Idealize.SL.Sem
open Cert.Spec

/-- A column of the flat states is a node and a unit. -/
theorem split (k : Fin 32768) : ∃ (n : Fin 512) (u : Fin 64), k = ⟨n * 64 + u, by omega⟩ :=
  ⟨⟨(k : ℕ) / 64, by omega⟩, ⟨(k : ℕ) % 64, by omega⟩, Fin.ext (by dsimp only; omega)⟩

section Kernel
open Cert.KernelIdeal Cert.KernelIdeal.Gen

/-- The flat last state holds node `n` and unit `u` at column `n * 64 + u`. -/
theorem flat_last (f : FVec Ideal S64x512x64 .f32) (b : Fin 64) (n : Fin 512) (u : Fin 64) :
    shapeCast S64x32768 f shapeCasts_S64x512x64_S64x32768 (ix2 b ⟨n * 64 + u, by omega⟩) = f (ix3 b n u) := by
  pointwise

/-- The flat states hold node `n` and unit `u` of layer `l` at column `n * 64 + u`. -/
theorem flat_states (f : FVec Ideal S2x64x512x64 .f32) (l : Fin 2) (b : Fin 64) (n : Fin 512) (u : Fin 64) :
    shapeCast S2x64x32768 f shapeCasts_S2x64x512x64_S2x64x32768 (ix3 l b ⟨n * 64 + u, by omega⟩) = f (ix4 l b n u) := by
  pointwise

end Kernel

/-- A flat state that equals `f` at every member, node and unit is the kernel's flat last state holding `f`. -/
theorem last_of (q : FVec Ideal Cert.KernelIdeal.S64x32768 .f32) (s : FVec Ideal Cert.KernelIdeal.S64x512x64 .f32)
    (h : ∀ (b : Fin 64) (n : Fin 512) (u : Fin 64), q (ix2 b ⟨n * 64 + u, by omega⟩) = s (ix3 b n u)) :
    q = shapeCast Cert.KernelIdeal.S64x32768 s Cert.KernelIdeal.Gen.shapeCasts_S64x512x64_S64x32768 := by
  funext i
  idx_vars i
  obtain ⟨n, u, rfl⟩ := split i1
  exact (h i0 n u).trans (flat_last s i0 n u).symm

/-- The two flat states one after the other are the kernel's flat array of states. -/
theorem states_of (p q : FVec Ideal Cert.ReferenceIdeal.S64x32768 .f32) (s : FVec Ideal Cert.KernelIdeal.S2x64x512x64 .f32)
    (h : ∀ (l : Fin 2) (b : Fin 64) (n : Fin 512) (u : Fin 64),
      (if (l : ℕ) = 0 then p (ix2 b ⟨n * 64 + u, by omega⟩) else q (ix2 b ⟨n * 64 + u, by omega⟩)) = s (ix4 l b n u)) :
    Cert.ReferenceIdeal.Two.pair p q =
      shapeCast Cert.KernelIdeal.S2x64x32768 s Cert.KernelIdeal.Gen.shapeCasts_S2x64x512x64_S2x64x32768 := by
  funext i
  idx_vars i
  obtain ⟨n, u, rfl⟩ := split i2
  exact (Cert.ReferenceIdeal.Two.pair_at p q i0 i1 _).trans ((h i0 i1 n u).trans (flat_states s i0 i1 n u).symm)

/-- The first cell of equal arguments. -/
theorem first_same {x x' : FVec Ideal Cert.KernelIdeal.S64x1024 .f32} {A A' : FVec Ideal Cert.KernelIdeal.S512x512 .f32}
    {Wg Wg' : FVec Ideal Cert.KernelIdeal.S198x128 .f32} {bg bg' : FVec Ideal Cert.KernelIdeal.S128 .f32}
    {Wc Wc' : FVec Ideal Cert.KernelIdeal.S198x64 .f32} {bc bc' : FVec Ideal Cert.KernelIdeal.S64 .f32}
    (hx : x = x') (hA : A = A') (hg : Wg = Wg') (hbg : bg = bg') (hc : Wc = Wc') (hbc : bc = bc')
    (b : Fin 64) (n : Fin 512) (u : Fin 64) : first x A Wg bg Wc bc b n u = first x' A' Wg' bg' Wc' bc' b n u := by
  subst hx hA hg hbg hc hbc
  rfl

/-- The second cell of equal arguments. -/
theorem second_same {h h' : Fin 64 → Fin 512 → Fin 64 → EReal} {A A' : FVec Ideal Cert.KernelIdeal.S512x512 .f32}
    {Wg Wg' : FVec Ideal Cert.KernelIdeal.S384x128 .f32} {bg bg' : FVec Ideal Cert.KernelIdeal.S128 .f32}
    {Wc Wc' : FVec Ideal Cert.KernelIdeal.S384x64 .f32} {bc bc' : FVec Ideal Cert.KernelIdeal.S64 .f32}
    (hh : ∀ b n u, h b n u = h' b n u) (hA : A = A') (hg : Wg = Wg') (hbg : bg = bg') (hc : Wc = Wc') (hbc : bc = bc')
    (b : Fin 64) (n : Fin 512) (u : Fin 64) : second h A Wg bg Wc bc b n u = second h' A' Wg' bg' Wc' bc' b n u := by
  have hh' : h = h' := funext fun b => funext fun n => funext fun u => hh b n u
  subst hh' hA hg hbg hc hbc
  rfl

section Equal
variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

/-- The reference's arguments are the kernel's, and the hidden state is zero. -/
structure Same : Prop where
  a0 : @Eq (FVec Ideal Cert.KernelIdeal.S64x1024 .f32) (V0 (Proc.devRef .tc Cert.ReferenceIdeal.main_arg0))
    (m ((c : Thread Cert.KernelIdeal.nD Cert.KernelIdeal.τ).loc Cert.KernelIdeal.main_arg0))
  a1 : @Eq (FVec Ideal Cert.KernelIdeal.S512x512 .f32) (V0 (Proc.devRef .tc Cert.ReferenceIdeal.main_arg1))
    (m ((c : Thread Cert.KernelIdeal.nD Cert.KernelIdeal.τ).loc Cert.KernelIdeal.main_arg1))
  zero : ∀ i, @Eq EReal (V0 (Proc.devRef .tc Cert.ReferenceIdeal.main_arg2) i) 0
  a3 : @Eq (FVec Ideal Cert.KernelIdeal.S198x128 .f32) (V0 (Proc.devRef .tc Cert.ReferenceIdeal.main_arg3))
    (m ((c : Thread Cert.KernelIdeal.nD Cert.KernelIdeal.τ).loc Cert.KernelIdeal.main_arg3))
  a4 : @Eq (FVec Ideal Cert.KernelIdeal.S128 .f32) (V0 (Proc.devRef .tc Cert.ReferenceIdeal.main_arg4))
    (m ((c : Thread Cert.KernelIdeal.nD Cert.KernelIdeal.τ).loc Cert.KernelIdeal.main_arg4))
  a5 : @Eq (FVec Ideal Cert.KernelIdeal.S198x64 .f32) (V0 (Proc.devRef .tc Cert.ReferenceIdeal.main_arg5))
    (m ((c : Thread Cert.KernelIdeal.nD Cert.KernelIdeal.τ).loc Cert.KernelIdeal.main_arg5))
  a6 : @Eq (FVec Ideal Cert.KernelIdeal.S64 .f32) (V0 (Proc.devRef .tc Cert.ReferenceIdeal.main_arg6))
    (m ((c : Thread Cert.KernelIdeal.nD Cert.KernelIdeal.τ).loc Cert.KernelIdeal.main_arg6))
  a7 : @Eq (FVec Ideal Cert.KernelIdeal.S384x128 .f32) (V0 (Proc.devRef .tc Cert.ReferenceIdeal.main_arg7))
    (m ((c : Thread Cert.KernelIdeal.nD Cert.KernelIdeal.τ).loc Cert.KernelIdeal.main_arg7))
  a8 : @Eq (FVec Ideal Cert.KernelIdeal.S128 .f32) (V0 (Proc.devRef .tc Cert.ReferenceIdeal.main_arg8))
    (m ((c : Thread Cert.KernelIdeal.nD Cert.KernelIdeal.τ).loc Cert.KernelIdeal.main_arg8))
  a9 : @Eq (FVec Ideal Cert.KernelIdeal.S384x64 .f32) (V0 (Proc.devRef .tc Cert.ReferenceIdeal.main_arg9))
    (m ((c : Thread Cert.KernelIdeal.nD Cert.KernelIdeal.τ).loc Cert.KernelIdeal.main_arg9))
  a10 : @Eq (FVec Ideal Cert.KernelIdeal.S64 .f32) (V0 (Proc.devRef .tc Cert.ReferenceIdeal.main_arg10))
    (m ((c : Thread Cert.KernelIdeal.nD Cert.KernelIdeal.τ).loc Cert.KernelIdeal.main_arg10))

/-- The reference's first new state is the kernel's. -/
theorem one_eq (e : Same V0 m c) (b : Fin 64) (n : Fin 512) (u : Fin 64) :
    Cert.ReferenceIdeal.Final.out1 V0 (ix2 b ⟨n * 64 + u, by omega⟩) = Cert.KernelIdeal.Final.one m c b n u :=
  (Cert.ReferenceIdeal.Final.out1_at V0 e.zero b n u).trans (first_same e.a0 e.a1 e.a3 e.a4 e.a5 e.a6 b n u)

/-- The reference's second new state is the kernel's. -/
theorem both_eq (e : Same V0 m c) (b : Fin 64) (n : Fin 512) (u : Fin 64) :
    Cert.ReferenceIdeal.Final.out2 V0 (ix2 b ⟨n * 64 + u, by omega⟩) = Cert.KernelIdeal.Final.both m c b n u :=
  (Cert.ReferenceIdeal.Final.out2_at V0 e.zero b n u).trans
    (second_same (fun b n u => first_same e.a0 e.a1 e.a3 e.a4 e.a5 e.a6 b n u) e.a1 e.a7 e.a8 e.a9 e.a10 b n u)

/-- The first results agree: the last layer's new state. -/
theorem last_eq (e : Same V0 m c) : Cert.ReferenceIdeal.Final.out2 V0 = shapeCast Cert.KernelIdeal.S64x32768
    (Cert.KernelIdeal.Final.last m c) Cert.KernelIdeal.Gen.shapeCasts_S64x512x64_S64x32768 :=
  last_of _ _ fun b n u => both_eq V0 m c e b n u

/-- The second results agree: the new states of both layers. -/
theorem states_eq (e : Same V0 m c) :
    Cert.ReferenceIdeal.Two.pair (Cert.ReferenceIdeal.Final.out1 V0) (Cert.ReferenceIdeal.Final.out2 V0) =
      shapeCast Cert.KernelIdeal.S2x64x32768 (Cert.KernelIdeal.Final.states m c)
        Cert.KernelIdeal.Gen.shapeCasts_S2x64x512x64_S2x64x32768 :=
  states_of _ _ _ fun l b n u => by
    rw [one_eq V0 m c e, both_eq V0 m c e]
    rfl

end Equal

end Cert.Link
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_fresh
public import proofs.«01_k».proof.Proof.Gen.ReferenceIdeal.Run
public import Idealize.ShloMosaic.Adequacy
public import Idealize.ShloMosaic.Init
public import Idealize.ShloMosaic.Lib.Quiescent
public import proofs.«01_k».proof.Proof.Zero
public import proofs.«01_k».proof.Proof.Link

@[expose] public section

noncomputable section

namespace Cert.Proof

open Idealize.ShloMosaic Idealize.SL.Sem Cert.Kernel

/-- The reference terminates, leaves its arguments unchanged and every counter at zero. -/
theorem reference_frame : Cert.quiescent_ReferenceIdeal (hReferenceIdeal := Cert.ReferenceIdeal.Gen.facts) := fun m g _ =>
  (θ_run _ _ _).mono (fun r h => ⟨fun c => (h c).2.2, sem_eq_zero_of_no_sems rfl _⟩) (Cert.ReferenceIdeal.Value.run m g)

/-- Under the precondition and on equal arguments, the reference's launched contents are the kernel's arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_fresh (hPre_fresh := Cert.Pre_fresh.Gen.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.Link.Same (StableHlo.launchContents m' c) m c where
  zero i := (congrFun h2 i).trans (Cert.Pre_fresh.Zero.hidden_zero _ _ _ _ _ _ _ _ _ _ _ (hp c) i)
  a0 := h0
  a1 := h1
  a3 := h3
  a4 := h4
  a5 := h5
  a6 := h6
  a7 := h7
  a8 := h8
  a9 := h9
  a10 := h10

/-- With a hidden state of zeros, kernel and reference end with the same two results over the extended reals. -/
theorem value : Cert.algebraic_KernelIdeal_ReferenceIdeal_pre_fresh (hKernelIdeal := Cert.KernelIdeal.Gen.facts)
    (hReferenceIdeal := Cert.ReferenceIdeal.Gen.facts) (hPre_fresh := Cert.Pre_fresh.Gen.facts) := fun m g m' g' hp hm => by
  refine ⟨fun c => shapeCast Cert.KernelIdeal.S64x32768 (Cert.KernelIdeal.Final.last m c)
      Cert.KernelIdeal.Gen.shapeCasts_S64x512x64_S64x32768,
    fun c => shapeCast Cert.KernelIdeal.S2x64x32768 (Cert.KernelIdeal.Final.states m c)
      Cert.KernelIdeal.Gen.shapeCasts_S2x64x512x64_S2x64x32768, ?_, ?_⟩
  · exact (θ_run _ _ _).mono (fun r h c => ⟨(h.1 c).1, (h.1 c).2, h.2.1 c⟩)
      (θ_run_and (Cert.KernelIdeal.Final.run m g) (Cert.KernelIdeal.Gen.frame m g))
  · have e : ∀ c, Cert.Link.Same (StableHlo.launchContents m' c) m c := fun c => by
      obtain ⟨h0, h1, h2, h3, h4, h5, h6, h7, h8, h9, h10⟩ := hm c
      exact same m m' hp c h0 h1 h2 h3 h4 h5 h6 h7 h8 h9 h10
    exact (θ_run _ _ _).mono (fun r h c => ⟨(h c).1.trans (Cert.Link.last_eq _ m c (e c)),
      (h c).2.1.trans (Cert.Link.states_eq _ m c (e c)), (h c).2.2⟩) (Cert.ReferenceIdeal.Value.run m' g')

/-- All the claims of the certificate. -/
theorem claim : Cert.Claim :=
  ⟨Cert.Kernel.Gen.facts, Cert.KernelIdeal.Gen.facts, Cert.ReferenceIdeal.Gen.facts, Cert.Pre_fresh.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, value⟩

end Cert.Proof

end
